-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lines_inside [hPre_lines_inside : Cert.Pre_lines_inside.Facts] (m : (ℓ : Loc Cert.KernelIdeal.nD Cert.KernelIdeal.τ Cert.KernelIdeal.sig) → Buf (Elt Ideal) ℓ) : Prop :=
  ∀ c : Dev Cert.KernelIdeal.nD,
    (Cert.Pre_lines_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_lines_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_lines_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lines_inside [hPre_lines_inside : Cert.Pre_lines_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lines_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_lines_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_lines_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_lines_inside [hKernelIdeal : Cert.KernelIdeal.Facts] [hPre_lines_inside : Cert.Pre_lines_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lines_inside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_lines_inside [hReferenceIdeal : Cert.ReferenceIdeal.Facts] [hPre_lines_inside : Cert.Pre_lines_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lines_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv31" .f32 0x3D042108#32 ((1 / 31 : ℝ) : EReal)

def algebraic_KernelIdeal_ReferenceIdeal_pre_lines_inside [hKernelIdeal : Cert.KernelIdeal.Facts] [hReferenceIdeal : Cert.ReferenceIdeal.Facts] [hPre_lines_inside : Cert.Pre_lines_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lines_inside m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v498) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_lines_inside : Cert.Pre_lines_inside.Facts),
    quiescent_Kernel (hKernel := hKernel)
    ∧ quiescent_KernelIdeal (hKernelIdeal := hKernelIdeal)
    ∧ quiescent_KernelIdeal_pre_lines_inside (hKernelIdeal := hKernelIdeal) (hPre_lines_inside := hPre_lines_inside)
    ∧ quiescent_ReferenceIdeal (hReferenceIdeal := hReferenceIdeal)
    ∧ quiescent_ReferenceIdeal_pre_lines_inside (hReferenceIdeal := hReferenceIdeal) (hPre_lines_inside := hPre_lines_inside)
    ∧ preserves_Kernel_KernelIdeal
    ∧ algebraic_KernelIdeal_ReferenceIdeal_pre_lines_inside (hKernelIdeal := hKernelIdeal) (hReferenceIdeal := hReferenceIdeal) (hPre_lines_inside := hPre_lines_inside)
-- ==== Pre_lines_inside.lean ====
abbrev S256x128x128 : Shape := ⟨3, ![256, 128, 128]⟩
abbrev S5000x4 : Shape := ⟨2, ![5000, 4]⟩
abbrev S128x256 : Shape := ⟨2, ![128, 256]⟩
abbrev S128 : Shape := ⟨1, ![128]⟩
abbrev S4x256 : Shape := ⟨2, ![4, 256]⟩
abbrev S4 : Shape := ⟨1, ![4]⟩
abbrev S1024x496 : Shape := ⟨2, ![1024, 496]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

class Facts : Prop where
  bcast_S_S5000x4 : S_.BroadcastsInDim S5000x4 (![] : Fin 0 → Fin S5000x4.rank)
  bcast_S_S4 : S_.BroadcastsInDim S4 (![] : Fin 0 → Fin S4.rank)

variable [Facts]

def fn {F : FTy → Type} [FloatOps F] (main_arg0 : FVec F S256x128x128 .f32) (main_arg1 : FVec F S5000x4 .f32) (main_arg2 : FVec F S128x256 .f32) (main_arg3 : FVec F S128 .f32) (main_arg4 : FVec F S4x256 .f32) (main_arg5 : FVec F S4 .f32) (main_arg6 : FVec F S4x256 .f32) (main_arg7 : FVec F S4 .f32) (main_arg8 : FVec F S1024x496 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1x1024 .f32) (main_arg15 : FVec F S1 .f32) : IVec S5000x4 1 × IVec S4 1 × IVec S4 1 :=
  let main_cst : FVec F S_ .f32 := constant S_ .f32 0x00000000#32
  let main_v0 : FVec F S5000x4 .f32 := broadcastInDim S5000x4 ![] bcast_S_S5000x4 main_cst
  let main_v1 : IVec S5000x4 1 := cmpf .oge main_arg1 main_v0
  let main_cst_0 : FVec F S_ .f32 := constant S_ .f32 0x42FE0000#32
  let main_v2 : FVec F S5000x4 .f32 := broadcastInDim S5000x4 ![] bcast_S_S5000x4 main_cst_0
  let main_v3 : IVec S5000x4 1 := cmpf .olt main_arg1 main_v2
  let main_v4 : IVec S5000x4 1 := andi main_v1 main_v3
  let main_cst_1 : FVec F S_ .f32 := constant S_ .f32 0x00000000#32
  let main_v5 : FVec F S4 .f32 := broadcastInDim S4 ![] bcast_S_S4 main_cst_1
  let main_v6 : IVec S4 1 := cmpf .oeq main_arg5 main_v5
  let main_cst_2 : FVec F S_ .f32 := constant S_ .f32 0x00000000#32
  let main_v7 : FVec F S4 .f32 := broadcastInDim S4 ![] bcast_S_S4 main_cst_2
  let main_v8 : IVec S4 1 := cmpf .oeq main_arg7 main_v7
  (main_v4, main_v6, main_v8)
-- ==== Kernel.lean ====
abbrev S256x128x128 : Shape := ⟨3, ![256, 128, 128]⟩
abbrev S5000x4 : Shape := ⟨2, ![5000, 4]⟩
abbrev S128x256 : Shape := ⟨2, ![128, 256]⟩
abbrev S128 : Shape := ⟨1, ![128]⟩
abbrev S4x256 : Shape := ⟨2, ![4, 256]⟩
abbrev S4 : Shape := ⟨1, ![4]⟩
abbrev S1024x496 : Shape := ⟨2, ![1024, 496]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S256x16384 : Shape := ⟨2, ![256, 16384]⟩
abbrev S16384x256 : Shape := ⟨2, ![16384, 256]⟩
abbrev S256x128 : Shape := ⟨2, ![256, 128]⟩
abbrev S8x256 : Shape := ⟨2, ![8, 256]⟩
abbrev S256x8 : Shape := ⟨2, ![256, 8]⟩
abbrev S_ : Shape := ⟨0, ![]⟩
abbrev S1x128 : Shape := ⟨2, ![1, 128]⟩
abbrev S16384x128 : Shape := ⟨2, ![16384, 128]⟩
abbrev S2048x256 : Shape := ⟨2, ![2048, 256]⟩
abbrev S2048x128 : Shape := ⟨2, ![2048, 128]⟩
abbrev S128x16384 : Shape := ⟨2, ![128, 16384]⟩
abbrev S16384x8 : Shape := ⟨2, ![16384, 8]⟩
abbrev S128x1024 : Shape := ⟨2, ![128, 1024]⟩
abbrev S5120x4 : Shape := ⟨2, ![5120, 4]⟩
abbrev S16384 : Shape := ⟨1, ![16384]⟩
abbrev S16384x1 : Shape := ⟨2, ![16384, 1]⟩
abbrev S1024x1 : Shape := ⟨2, ![1024, 1]⟩
abbrev S1024x128 : Shape := ⟨2, ![1024, 128]⟩
abbrev S1x16384 : Shape := ⟨2, ![1, 16384]⟩
abbrev S10240x128 : Shape := ⟨2, ![10240, 128]⟩
abbrev S128x4 : Shape := ⟨2, ![128, 4]⟩
abbrev S128x1 : Shape := ⟨2, ![128, 1]⟩
abbrev S256x1 : Shape := ⟨2, ![256, 1]⟩
abbrev S163840x128 : Shape := ⟨2, ![163840, 128]⟩
abbrev S4096x128 : Shape := ⟨2, ![4096, 128]⟩
abbrev S128x1x1 : Shape := ⟨3, ![128, 1, 1]⟩
abbrev S1x32x1 : Shape := ⟨3, ![1, 32, 1]⟩
abbrev S128x32x1 : Shape := ⟨3, ![128, 32, 1]⟩
abbrev S1x1x128 : Shape := ⟨3, ![1, 1, 128]⟩
abbrev S128x32x128 : Shape := ⟨3, ![128, 32, 128]⟩
abbrev S4096x1024 : Shape := ⟨2, ![4096, 1024]⟩
abbrev S1x1x1024 : Shape := ⟨3, ![1, 1, 1024]⟩
abbrev S128x32x1024 : Shape := ⟨3, ![128, 32, 1024]⟩
abbrev S40x2x128x128 : Shape := ⟨4, ![40, 2, 128, 128]⟩
abbrev S40x1x128x128 : Shape := ⟨4, ![40, 1, 128, 128]⟩
abbrev S40x128x128 : Shape := ⟨3, ![40, 128, 128]⟩
abbrev S5120x128 : Shape := ⟨2, ![5120, 128]⟩
abbrev S5000x128 : Shape := ⟨2, ![5000, 128]⟩
abbrev S5120x32x128 : Shape := ⟨3, ![5120, 32, 128]⟩
abbrev S5000x30x8 : Shape := ⟨3, ![5000, 30, 8]⟩
abbrev S5000x30x4 : Shape := ⟨3, ![5000, 30, 4]⟩
abbrev S5000x120 : Shape := ⟨2, ![5000, 120]⟩
abbrev S5000x496 : Shape := ⟨2, ![5000, 496]⟩
abbrev S5120x512 : Shape := ⟨2, ![5120, 512]⟩
abbrev S496x1024 : Shape := ⟨2, ![496, 1024]⟩
abbrev S512x1024 : Shape := ⟨2, ![512, 1024]⟩
abbrev S1x1 : Shape := ⟨2, ![1, 1]⟩
abbrev S640x512 : Shape := ⟨2, ![640, 512]⟩
abbrev S640x128 : Shape := ⟨2, ![640, 128]⟩
abbrev S640x1024 : Shape := ⟨2, ![640, 1024]⟩
abbrev S5000x1 : Shape := ⟨2, ![5000, 1]⟩
abbrev S5000 : Shape := ⟨1, ![5000]⟩

abbrev nBuf : Space → Nat
  | .hbm => 175
  | .vmem => 37
  | .smem => 0
  | _ => 0

abbrev hbmTy0_0 (i : Nat) : BufTy := match i % 128 with
  | 0 => ⟨S256x128x128, .f32⟩
  | 1 => ⟨S5000x4, .f32⟩
  | 2 => ⟨S128x256, .f32⟩
  | 3 => ⟨S128, .f32⟩
  | 4 => ⟨S4x256, .f32⟩
  | 5 => ⟨S4, .f32⟩
  | 6 => ⟨S4x256, .f32⟩
  | 7 => ⟨S4, .f32⟩
  | 8 => ⟨S1024x496, .f32⟩
  | 9 => ⟨S1024, .f32⟩
  | 10 => ⟨S1024x1024, .f32⟩
  | 11 => ⟨S1024, .f32⟩
  | 12 => ⟨S1024x1024, .f32⟩
  | 13 => ⟨S1024, .f32⟩
  | 14 => ⟨S1x1024, .f32⟩
  | 15 => ⟨S1, .f32⟩
  | 16 => ⟨S256x16384, .f32⟩
  | 17 => ⟨S16384x256, .f32⟩
  | 18 => ⟨S256x128, .f32⟩
  | 19 => ⟨S8x256, .f32⟩
  | 20 => ⟨S256x8, .f32⟩
  | 21 => ⟨S_, .i32⟩
  | 22 => ⟨S_, .f32⟩
  | 23 => ⟨S256x128, .f32⟩
  | 24 => ⟨S1x128, .f32⟩
  | 25 => ⟨S16384x128, .f32⟩
  | 26 => ⟨S16384x128, .f32⟩
  | 27 => ⟨S128x16384, .f32⟩
  | 28 => ⟨S16384x8, .f32⟩
  | 29 => ⟨S128x1024, .f32⟩
  | 30 => ⟨S_, .i32⟩
  | 31 => ⟨S_, .f32⟩
  | 32 => ⟨S5120x4, .f32⟩
  | 33 => ⟨S128, .i32⟩
  | 34 => ⟨S16384, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S16384, .i32⟩
  | 42 => ⟨S16384, .i32⟩
  | 43 => ⟨S_, .i32⟩
  | 44 => ⟨S16384, .i32⟩
  | 45 => ⟨S16384, .i1⟩
  | 46 => ⟨S_, .i32⟩
  | 47 => ⟨S16384, .i32⟩
  | 48 => ⟨S16384, .i1⟩
  | 49 => ⟨S_, .i32⟩
  | 50 => ⟨S_, .i1⟩
  | 51 => ⟨S16384, .i1⟩
  | 52 => ⟨S16384, .i1⟩
  | 53 => ⟨S16384, .i1⟩
  | 54 => ⟨S16384, .i32⟩
  | 55 => ⟨S16384, .i32⟩
  | 56 => ⟨S16384, .i32⟩
  | 57 => ⟨S16384x1, .i32⟩
  | 58 => ⟨S1x128, .i32⟩
  | 59 => ⟨S16384x128, .i32⟩
  | 60 => ⟨S16384x128, .i32⟩
  | 61 => ⟨S16384x128, .i1⟩
  | 62 => ⟨S16384x128, .f32⟩
  | 63 => ⟨S1024, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S1024, .i32⟩
  | 71 => ⟨S1024, .i32⟩
  | 72 => ⟨S_, .i32⟩
  | 73 => ⟨S1024, .i32⟩
  | 74 => ⟨S1024, .i1⟩
  | 75 => ⟨S_, .i32⟩
  | 76 => ⟨S1024, .i32⟩
  | 77 => ⟨S1024, .i1⟩
  | 78 => ⟨S_, .i32⟩
  | 79 => ⟨S_, .i1⟩
  | 80 => ⟨S1024, .i1⟩
  | 81 => ⟨S1024, .i1⟩
  | 82 => ⟨S1024, .i1⟩
  | 83 => ⟨S1024, .i32⟩
  | 84 => ⟨S1024, .i32⟩
  | 85 => ⟨S1024, .i32⟩
  | 86 => ⟨S1024x1, .i32⟩
  | 87 => ⟨S1x128, .i32⟩
  | 88 => ⟨S1024x128, .i32⟩
  | 89 => ⟨S1024x128, .i32⟩
  | 90 => ⟨S1024x128, .i1⟩
  | 91 => ⟨S1024x128, .f32⟩
  | 92 => ⟨S128, .f32⟩
  | 93 => ⟨S1x128, .f32⟩
  | 94 => ⟨S16384, .i32⟩
  | 95 => ⟨S_, .i32⟩
  | 96 => ⟨S_, .i32⟩
  | 97 => ⟨S16384, .i32⟩
  | 98 => ⟨S16384, .i32⟩
  | 99 => ⟨S16384, .i32⟩
  | 100 => ⟨S_, .i32⟩
  | 101 => ⟨S16384, .i32⟩
  | 102 => ⟨S16384, .i1⟩
  | 103 => ⟨S16384, .i32⟩
  | 104 => ⟨S16384, .i32⟩
  | 105 => ⟨S_, .i32⟩
  | 106 => ⟨S16384, .i32⟩
  | 107 => ⟨S16384, .i1⟩
  | 108 => ⟨S16384, .i1⟩
  | 109 => ⟨S_, .i32⟩
  | 110 => ⟨S16384, .i32⟩
  | 111 => ⟨S16384, .i32⟩
  | 112 => ⟨S16384, .i32⟩
  | 113 => ⟨S16384, .f32⟩
  | 114 => ⟨S1x16384, .f32⟩
  | 115 => ⟨S1024, .i32⟩
  | 116 => ⟨S_, .i32⟩
  | 117 => ⟨S_, .i32⟩
  | 118 => ⟨S1024, .i32⟩
  | 119 => ⟨S1024, .i32⟩
  | 120 => ⟨S1024, .i32⟩
  | 121 => ⟨S_, .i32⟩
  | 122 => ⟨S1024, .i32⟩
  | 123 => ⟨S1024, .i1⟩
  | 124 => ⟨S1024, .i32⟩
  | 125 => ⟨S1024, .i32⟩
  | 126 => ⟨S_, .i32⟩
  | 127 => ⟨S1024, .i32⟩
  | _ => ⟨S256x128x128, .f32⟩

abbrev hbmTy0_1 (i : Nat) : BufTy := match i % 128 with
  | 0 => ⟨S1024, .i1⟩
  | 1 => ⟨S1024, .i1⟩
  | 2 => ⟨S_, .i32⟩
  | 3 => ⟨S1024, .i32⟩
  | 4 => ⟨S1024, .i32⟩
  | 5 => ⟨S1024, .i32⟩
  | 6 => ⟨S1024, .f32⟩
  | 7 => ⟨S1x1024, .f32⟩
  | 8 => ⟨S10240x128, .f32⟩
  | 9 => ⟨S163840x128, .f32⟩
  | 10 => ⟨S40x2x128x128, .f32⟩
  | 11 => ⟨S40x1x128x128, .f32⟩
  | 12 => ⟨S40x128x128, .f32⟩
  | 13 => ⟨S5120x128, .f32⟩
  | 14 => ⟨S5000x128, .f32⟩
  | 15 => ⟨S40x1x128x128, .f32⟩
  | 16 => ⟨S40x128x128, .f32⟩
  | 17 => ⟨S5120x128, .f32⟩
  | 18 => ⟨S5000x128, .f32⟩
  | 19 => ⟨S5120x32x128, .f32⟩
  | 20 => ⟨S5000x30x8, .f32⟩
  | 21 => ⟨S5000x30x4, .f32⟩
  | 22 => ⟨S5000x120, .f32⟩
  | 23 => ⟨S5000x30x4, .f32⟩
  | 24 => ⟨S5000x120, .f32⟩
  | 25 => ⟨S5000x496, .f32⟩
  | 26 => ⟨S_, .i32⟩
  | 27 => ⟨S_, .f32⟩
  | 28 => ⟨S5120x512, .f32⟩
  | 29 => ⟨S496x1024, .f32⟩
  | 30 => ⟨S_, .i32⟩
  | 31 => ⟨S_, .f32⟩
  | 32 => ⟨S512x1024, .f32⟩
  | 33 => ⟨S1024x1, .f32⟩
  | 34 => ⟨S_, .i32⟩
  | 35 => ⟨S_, .f32⟩
  | 36 => ⟨S1024x128, .f32⟩
  | 37 => ⟨S1x1, .f32⟩
  | 38 => ⟨S1x128, .f32⟩
  | 39 => ⟨S1x1024, .f32⟩
  | 40 => ⟨S1024x1024, .f32⟩
  | 41 => ⟨S1x1024, .f32⟩
  | 42 => ⟨S1024x1024, .f32⟩
  | 43 => ⟨S1x1024, .f32⟩
  | 44 => ⟨S5120x128, .f32⟩
  | 45 => ⟨S5000x1, .f32⟩
  | 46 => ⟨S5000, .f32⟩
  | _ => ⟨S256x128x128, .f32⟩

abbrev hbmTy (i : Nat) : BufTy := match i / 128 with
  | 0 => hbmTy0_0 i
  | 1 => hbmTy0_1 i
  | _ => ⟨S256x128x128, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S128x4, .f32⟩
  | .local _ .vmem, ⟨10, _⟩ => ⟨S128x4, .f32⟩
  | .local _ .vmem, ⟨11, _⟩ => ⟨S128x16384, .f32⟩
  | .local _ .vmem, ⟨12, _⟩ => ⟨S16384x128, .f32⟩
  | .local _ .vmem, ⟨13, _⟩ => ⟨S1x128, .f32⟩
  | .local _ .vmem, ⟨14, _⟩ => ⟨S1x16384, .f32⟩
  | .local _ .vmem, ⟨15, _⟩ => ⟨S256x128, .f32⟩
  | .local _ .vmem, ⟨16, _⟩ => ⟨S256x128, .f32⟩
  | .local _ .vmem, ⟨17, _⟩ => ⟨S128x4, .f32⟩
  | .local _ .vmem, ⟨18, _⟩ => ⟨S128x4, .f32⟩
  | .local _ .vmem, ⟨19, _⟩ => ⟨S128x1024, .f32⟩
  | .local _ .vmem, ⟨20, _⟩ => ⟨S1024x128, .f32⟩
  | .local _ .vmem, ⟨21, _⟩ => ⟨S1x128, .f32⟩
  | .local _ .vmem, ⟨22, _⟩ => ⟨S1x1024, .f32⟩
  | .local _ .vmem, ⟨23, _⟩ => ⟨S4096x128, .f32⟩
  | .local _ .vmem, ⟨24, _⟩ => ⟨S4096x128, .f32⟩
  | .local _ .vmem, ⟨25, _⟩ => ⟨S640x512, .f32⟩
  | .local _ .vmem, ⟨26, _⟩ => ⟨S640x512, .f32⟩
  | .local _ .vmem, ⟨27, _⟩ => ⟨S512x1024, .f32⟩
  | .local _ .vmem, ⟨28, _⟩ => ⟨S1x1024, .f32⟩
  | .local _ .vmem, ⟨29, _⟩ => ⟨S1024x1024, .f32⟩
  | .local _ .vmem, ⟨30, _⟩ => ⟨S1x1024, .f32⟩
  | .local _ .vmem, ⟨31, _⟩ => ⟨S1024x1024, .f32⟩
  | .local _ .vmem, ⟨32, _⟩ => ⟨S1x1024, .f32⟩
  | .local _ .vmem, ⟨33, _⟩ => ⟨S1024x128, .f32⟩
  | .local _ .vmem, ⟨34, _⟩ => ⟨S1x128, .f32⟩
  | .local _ .vmem, ⟨35, _⟩ => ⟨S640x128, .f32⟩
  | .local _ .vmem, ⟨36, _⟩ => ⟨S640x128, .f32⟩
  | _, _ => ⟨S256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_call1_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_call2_v0 : Ref sig .tc := ⟨.hbm, 36, rfl⟩
abbrev main_call2_c : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_c_1 : Ref sig .tc := ⟨.hbm, 43, rfl⟩
abbrev main_call2_v5 : Ref sig .tc := ⟨.hbm, 44, rfl⟩
abbrev main_call2_v6 : Ref sig .tc := ⟨.hbm, 45, rfl⟩
abbrev main_call2_c_2 : Ref sig .tc := ⟨.hbm, 46, rfl⟩
abbrev main_call2_v7 : Ref sig .tc := ⟨.hbm, 47, rfl⟩
abbrev main_call2_v8 : Ref sig .tc := ⟨.hbm, 48, rfl⟩
abbrev main_call2_c_3 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_c_2 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_v5 : Ref sig .tc := ⟨.hbm, 73, rfl⟩
abbrev main_call3_v6 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_c_3 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_c_3 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_c : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_0 : Ref sig .tc := ⟨.hbm, 109, rfl⟩
abbrev main_call4_v12 : Ref sig .tc := ⟨.hbm, 110, rfl⟩
abbrev main_call4_v13 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_c_4 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_v6 : Ref sig .tc := ⟨.hbm, 123, rfl⟩
abbrev main_call5_v7 : Ref sig .tc := ⟨.hbm, 124, rfl⟩
abbrev main_call5_v8 : Ref sig .tc := ⟨.hbm, 125, rfl⟩
abbrev main_call5_c : Ref sig .tc := ⟨.hbm, 126, rfl⟩
abbrev main_call5_v9 : Ref sig .tc := ⟨.hbm, 127, rfl⟩
abbrev main_call5_v10 : Ref sig .tc := ⟨.hbm, 128, rfl⟩
abbrev main_call5_v11 : Ref sig .tc := ⟨.hbm, 129, rfl⟩
abbrev main_call5_c_0 : Ref sig .tc := ⟨.hbm, 130, rfl⟩
abbrev main_call5_v12 : Ref sig .tc := ⟨.hbm, 131, rfl⟩
abbrev main_call5_v13 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_c_5 : Ref sig .tc := ⟨.hbm, 154, rfl⟩
abbrev main_call6_v0 : Ref sig .tc := ⟨.hbm, 155, rfl⟩
abbrev main_v57 : Ref sig .tc := ⟨.hbm, 156, rfl⟩
abbrev main_v58 : Ref sig .tc := ⟨.hbm, 157, rfl⟩
abbrev main_c_6 : Ref sig .tc := ⟨.hbm, 158, rfl⟩
abbrev main_call7_v0 : Ref sig .tc := ⟨.hbm, 159, rfl⟩
abbrev main_v59 : Ref sig .tc := ⟨.hbm, 160, rfl⟩
abbrev main_v60 : Ref sig .tc := ⟨.hbm, 161, rfl⟩
abbrev main_c_7 : Ref sig .tc := ⟨.hbm, 162, rfl⟩
abbrev main_call8_v0 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg9_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem9_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16384x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S640x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S640x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== KernelIdeal.lean ====
variable {F : FTy → Type} [FloatOps F] [Named F]
def κ : String → Option EReal := fun
  | "inv31" => some ((1 / 31 : ℝ) : EReal)
  | _ => none
-- ==== ReferenceIdeal.lean ====
abbrev S256x128x128 : Shape := ⟨3, ![256, 128, 128]⟩
abbrev S5000x4 : Shape := ⟨2, ![5000, 4]⟩
abbrev S128x256 : Shape := ⟨2, ![128, 256]⟩
abbrev S128 : Shape := ⟨1, ![128]⟩
abbrev S4x256 : Shape := ⟨2, ![4, 256]⟩
abbrev S4 : Shape := ⟨1, ![4]⟩
abbrev S1024x496 : Shape := ⟨2, ![1024, 496]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S128x128x128 : Shape := ⟨3, ![128, 128, 128]⟩
abbrev S128x1x1 : Shape := ⟨3, ![128, 1, 1]⟩
abbrev S4x128x128 : Shape := ⟨3, ![4, 128, 128]⟩
abbrev S4x1x1 : Shape := ⟨3, ![4, 1, 1]⟩
abbrev S_ : Shape := ⟨0, ![]⟩
abbrev S31 : Shape := ⟨1, ![31]⟩
abbrev S32 : Shape := ⟨1, ![32]⟩
abbrev S5000x2 : Shape := ⟨2, ![5000, 2]⟩
abbrev S5000x2x1 : Shape := ⟨3, ![5000, 2, 1]⟩
abbrev S1x1x32 : Shape := ⟨3, ![1, 1, 32]⟩
abbrev S5000x2x32 : Shape := ⟨3, ![5000, 2, 32]⟩
abbrev S5000x2x30 : Shape := ⟨3, ![5000, 2, 30]⟩
abbrev S5000x30x2 : Shape := ⟨3, ![5000, 30, 2]⟩
abbrev S150000x2 : Shape := ⟨2, ![150000, 2]⟩
abbrev S150000x1 : Shape := ⟨2, ![150000, 1]⟩
abbrev S150000 : Shape := ⟨1, ![150000]⟩
abbrev S4x150000 : Shape := ⟨2, ![4, 150000]⟩
abbrev S1x150000 : Shape := ⟨2, ![1, 150000]⟩
abbrev S4x5000x30 : Shape := ⟨3, ![4, 5000, 30]⟩
abbrev S5000x30x4 : Shape := ⟨3, ![5000, 30, 4]⟩
abbrev S5000x120 : Shape := ⟨2, ![5000, 120]⟩
abbrev S5000x1 : Shape := ⟨2, ![5000, 1]⟩
abbrev S5000 : Shape := ⟨1, ![5000]⟩
abbrev S128x5000 : Shape := ⟨2, ![128, 5000]⟩
abbrev S1x5000 : Shape := ⟨2, ![1, 5000]⟩
abbrev S5000x128 : Shape := ⟨2, ![5000, 128]⟩
abbrev S5000x496 : Shape := ⟨2, ![5000, 496]⟩
abbrev S496x1024 : Shape := ⟨2, ![496, 1024]⟩
abbrev S5000x1024 : Shape := ⟨2, ![5000, 1024]⟩
abbrev S1024x1 : Shape := ⟨2, ![1024, 1]⟩
abbrev S1x1 : Shape := ⟨2, ![1, 1]⟩

abbrev nBuf : Space → Nat
  | .hbm => 726
  | .vmem => 0
  | .smem => 0
  | _ => 0

abbrev hbmTy0_0 (i : Nat) : BufTy := match i % 128 with
  | 0 => ⟨S256x128x128, .f32⟩
  | 1 => ⟨S5000x4, .f32⟩
  | 2 => ⟨S128x256, .f32⟩
  | 3 => ⟨S128, .f32⟩
  | 4 => ⟨S4x256, .f32⟩
  | 5 => ⟨S4, .f32⟩
  | 6 => ⟨S4x256, .f32⟩
  | 7 => ⟨S4, .f32⟩
  | 8 => ⟨S1024x496, .f32⟩
  | 9 => ⟨S1024, .f32⟩
  | 10 => ⟨S1024x1024, .f32⟩
  | 11 => ⟨S1024, .f32⟩
  | 12 => ⟨S1024x1024, .f32⟩
  | 13 => ⟨S1024, .f32⟩
  | 14 => ⟨S1x1024, .f32⟩
  | 15 => ⟨S1, .f32⟩
  | 16 => ⟨S128x128x128, .f32⟩
  | 17 => ⟨S128x1x1, .f32⟩
  | 18 => ⟨S128x128x128, .f32⟩
  | 19 => ⟨S128x128x128, .f32⟩
  | 20 => ⟨S4x128x128, .f32⟩
  | 21 => ⟨S4x1x1, .f32⟩
  | 22 => ⟨S4x128x128, .f32⟩
  | 23 => ⟨S4x128x128, .f32⟩
  | 24 => ⟨S4x128x128, .f32⟩
  | 25 => ⟨S4x1x1, .f32⟩
  | 26 => ⟨S4x128x128, .f32⟩
  | 27 => ⟨S4x128x128, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S31, .f32⟩
  | 36 => ⟨S_, .f32⟩
  | 37 => ⟨S31, .f32⟩
  | 38 => ⟨S31, .f32⟩
  | 39 => ⟨S1, .f32⟩
  | 40 => ⟨S_, .f32⟩
  | 41 => ⟨S31, .f32⟩
  | 42 => ⟨S31, .f32⟩
  | 43 => ⟨S31, .f32⟩
  | 44 => ⟨S31, .f32⟩
  | 45 => ⟨S1, .f32⟩
  | 46 => ⟨S31, .f32⟩
  | 47 => ⟨S31, .f32⟩
  | 48 => ⟨S31, .f32⟩
  | 49 => ⟨S1, .f32⟩
  | 50 => ⟨S32, .f32⟩
  | 51 => ⟨S5000x2, .f32⟩
  | 52 => ⟨S5000x2, .f32⟩
  | 53 => ⟨S5000x2x1, .f32⟩
  | 54 => ⟨S1x1x32, .f32⟩
  | 55 => ⟨S5000x2x32, .f32⟩
  | 56 => ⟨S5000x2x32, .f32⟩
  | 57 => ⟨S5000x2x32, .f32⟩
  | 58 => ⟨S5000x2x1, .f32⟩
  | 59 => ⟨S1x1x32, .f32⟩
  | 60 => ⟨S_, .f32⟩
  | 61 => ⟨S1x1x32, .f32⟩
  | 62 => ⟨S1x1x32, .f32⟩
  | 63 => ⟨S5000x2x32, .f32⟩
  | 64 => ⟨S5000x2x32, .f32⟩
  | 65 => ⟨S5000x2x32, .f32⟩
  | 66 => ⟨S5000x2x32, .f32⟩
  | 67 => ⟨S5000x2x30, .f32⟩
  | 68 => ⟨S5000x30x2, .f32⟩
  | 69 => ⟨S150000x2, .f32⟩
  | 70 => ⟨S150000x1, .f32⟩
  | 71 => ⟨S150000, .f32⟩
  | 72 => ⟨S150000x1, .f32⟩
  | 73 => ⟨S150000, .f32⟩
  | 74 => ⟨S150000, .f32⟩
  | 75 => ⟨S_, .i32⟩
  | 76 => ⟨S_, .i32⟩
  | 77 => ⟨S_, .f32⟩
  | 78 => ⟨S150000, .f32⟩
  | 79 => ⟨S150000, .f32⟩
  | 80 => ⟨S_, .f32⟩
  | 81 => ⟨S150000, .f32⟩
  | 82 => ⟨S150000, .f32⟩
  | 83 => ⟨S150000, .f32⟩
  | 84 => ⟨S_, .i32⟩
  | 85 => ⟨S_, .i32⟩
  | 86 => ⟨S_, .f32⟩
  | 87 => ⟨S150000, .f32⟩
  | 88 => ⟨S150000, .f32⟩
  | 89 => ⟨S_, .f32⟩
  | 90 => ⟨S150000, .f32⟩
  | 91 => ⟨S150000, .f32⟩
  | 92 => ⟨S_, .f32⟩
  | 93 => ⟨S150000, .f32⟩
  | 94 => ⟨S150000, .f32⟩
  | 95 => ⟨S_, .i32⟩
  | 96 => ⟨S_, .i32⟩
  | 97 => ⟨S_, .f32⟩
  | 98 => ⟨S150000, .f32⟩
  | 99 => ⟨S150000, .f32⟩
  | 100 => ⟨S_, .f32⟩
  | 101 => ⟨S150000, .f32⟩
  | 102 => ⟨S150000, .f32⟩
  | 103 => ⟨S_, .f32⟩
  | 104 => ⟨S150000, .f32⟩
  | 105 => ⟨S150000, .f32⟩
  | 106 => ⟨S_, .i32⟩
  | 107 => ⟨S_, .i32⟩
  | 108 => ⟨S_, .f32⟩
  | 109 => ⟨S150000, .f32⟩
  | 110 => ⟨S150000, .f32⟩
  | 111 => ⟨S_, .f32⟩
  | 112 => ⟨S150000, .f32⟩
  | 113 => ⟨S150000, .f32⟩
  | 114 => ⟨S150000, .i32⟩
  | 115 => ⟨S150000, .i32⟩
  | 116 => ⟨S150000, .i32⟩
  | 117 => ⟨S150000, .i32⟩
  | 118 => ⟨S_, .i32⟩
  | 119 => ⟨S150000, .i32⟩
  | 120 => ⟨S150000, .i1⟩
  | 121 => ⟨S_, .i32⟩
  | 122 => ⟨S150000, .i32⟩
  | 123 => ⟨S150000, .i32⟩
  | 124 => ⟨S150000, .i32⟩
  | 125 => ⟨S_, .i32⟩
  | 126 => ⟨S150000, .i32⟩
  | 127 => ⟨S150000, .i1⟩
  | _ => ⟨S256x128x128, .f32⟩

abbrev hbmTy0_1 (i : Nat) : BufTy := match i % 128 with
  | 0 => ⟨S_, .i32⟩
  | 1 => ⟨S150000, .i32⟩
  | 2 => ⟨S150000, .i32⟩
  | 3 => ⟨S150000, .i32⟩
  | 4 => ⟨S150000x1, .i32⟩
  | 5 => ⟨S150000x1, .i32⟩
  | 6 => ⟨S150000x2, .i32⟩
  | 7 => ⟨S4x150000, .f32⟩
  | 8 => ⟨S150000, .f32⟩
  | 9 => ⟨S1x150000, .f32⟩
  | 10 => ⟨S4x150000, .f32⟩
  | 11 => ⟨S4x150000, .f32⟩
  | 12 => ⟨S150000, .f32⟩
  | 13 => ⟨S1x150000, .f32⟩
  | 14 => ⟨S4x150000, .f32⟩
  | 15 => ⟨S4x150000, .f32⟩
  | 16 => ⟨S_, .i32⟩
  | 17 => ⟨S150000, .i32⟩
  | 18 => ⟨S150000, .i1⟩
  | 19 => ⟨S_, .i32⟩
  | 20 => ⟨S150000, .i32⟩
  | 21 => ⟨S150000, .i32⟩
  | 22 => ⟨S150000, .i32⟩
  | 23 => ⟨S_, .i32⟩
  | 24 => ⟨S150000, .i32⟩
  | 25 => ⟨S150000, .i1⟩
  | 26 => ⟨S_, .i32⟩
  | 27 => ⟨S150000, .i32⟩
  | 28 => ⟨S150000, .i32⟩
  | 29 => ⟨S150000, .i32⟩
  | 30 => ⟨S150000x1, .i32⟩
  | 31 => ⟨S150000x1, .i32⟩
  | 32 => ⟨S150000x2, .i32⟩
  | 33 => ⟨S4x150000, .f32⟩
  | 34 => ⟨S150000, .f32⟩
  | 35 => ⟨S1x150000, .f32⟩
  | 36 => ⟨S4x150000, .f32⟩
  | 37 => ⟨S4x150000, .f32⟩
  | 38 => ⟨S150000, .f32⟩
  | 39 => ⟨S1x150000, .f32⟩
  | 40 => ⟨S4x150000, .f32⟩
  | 41 => ⟨S4x150000, .f32⟩
  | 42 => ⟨S4x150000, .f32⟩
  | 43 => ⟨S_, .i32⟩
  | 44 => ⟨S150000, .i32⟩
  | 45 => ⟨S150000, .i1⟩
  | 46 => ⟨S_, .i32⟩
  | 47 => ⟨S150000, .i32⟩
  | 48 => ⟨S150000, .i32⟩
  | 49 => ⟨S150000, .i32⟩
  | 50 => ⟨S_, .i32⟩
  | 51 => ⟨S150000, .i32⟩
  | 52 => ⟨S150000, .i1⟩
  | 53 => ⟨S_, .i32⟩
  | 54 => ⟨S150000, .i32⟩
  | 55 => ⟨S150000, .i32⟩
  | 56 => ⟨S150000, .i32⟩
  | 57 => ⟨S150000x1, .i32⟩
  | 58 => ⟨S150000x1, .i32⟩
  | 59 => ⟨S150000x2, .i32⟩
  | 60 => ⟨S4x150000, .f32⟩
  | 61 => ⟨S150000, .f32⟩
  | 62 => ⟨S1x150000, .f32⟩
  | 63 => ⟨S4x150000, .f32⟩
  | 64 => ⟨S4x150000, .f32⟩
  | 65 => ⟨S150000, .f32⟩
  | 66 => ⟨S1x150000, .f32⟩
  | 67 => ⟨S4x150000, .f32⟩
  | 68 => ⟨S4x150000, .f32⟩
  | 69 => ⟨S4x150000, .f32⟩
  | 70 => ⟨S_, .i32⟩
  | 71 => ⟨S150000, .i32⟩
  | 72 => ⟨S150000, .i1⟩
  | 73 => ⟨S_, .i32⟩
  | 74 => ⟨S150000, .i32⟩
  | 75 => ⟨S150000, .i32⟩
  | 76 => ⟨S150000, .i32⟩
  | 77 => ⟨S_, .i32⟩
  | 78 => ⟨S150000, .i32⟩
  | 79 => ⟨S150000, .i1⟩
  | 80 => ⟨S_, .i32⟩
  | 81 => ⟨S150000, .i32⟩
  | 82 => ⟨S150000, .i32⟩
  | 83 => ⟨S150000, .i32⟩
  | 84 => ⟨S150000x1, .i32⟩
  | 85 => ⟨S150000x1, .i32⟩
  | 86 => ⟨S150000x2, .i32⟩
  | 87 => ⟨S4x150000, .f32⟩
  | 88 => ⟨S150000, .f32⟩
  | 89 => ⟨S1x150000, .f32⟩
  | 90 => ⟨S4x150000, .f32⟩
  | 91 => ⟨S4x150000, .f32⟩
  | 92 => ⟨S150000, .f32⟩
  | 93 => ⟨S1x150000, .f32⟩
  | 94 => ⟨S4x150000, .f32⟩
  | 95 => ⟨S4x150000, .f32⟩
  | 96 => ⟨S4x150000, .f32⟩
  | 97 => ⟨S4x5000x30, .f32⟩
  | 98 => ⟨S5000x30x4, .f32⟩
  | 99 => ⟨S5000x120, .f32⟩
  | 100 => ⟨S150000x1, .f32⟩
  | 101 => ⟨S150000, .f32⟩
  | 102 => ⟨S150000x1, .f32⟩
  | 103 => ⟨S150000, .f32⟩
  | 104 => ⟨S150000, .f32⟩
  | 105 => ⟨S_, .i32⟩
  | 106 => ⟨S_, .i32⟩
  | 107 => ⟨S_, .f32⟩
  | 108 => ⟨S150000, .f32⟩
  | 109 => ⟨S150000, .f32⟩
  | 110 => ⟨S_, .f32⟩
  | 111 => ⟨S150000, .f32⟩
  | 112 => ⟨S150000, .f32⟩
  | 113 => ⟨S150000, .f32⟩
  | 114 => ⟨S_, .i32⟩
  | 115 => ⟨S_, .i32⟩
  | 116 => ⟨S_, .f32⟩
  | 117 => ⟨S150000, .f32⟩
  | 118 => ⟨S150000, .f32⟩
  | 119 => ⟨S_, .f32⟩
  | 120 => ⟨S150000, .f32⟩
  | 121 => ⟨S150000, .f32⟩
  | 122 => ⟨S_, .f32⟩
  | 123 => ⟨S150000, .f32⟩
  | 124 => ⟨S150000, .f32⟩
  | 125 => ⟨S_, .i32⟩
  | 126 => ⟨S_, .i32⟩
  | 127 => ⟨S_, .f32⟩
  | _ => ⟨S256x128x128, .f32⟩

abbrev hbmTy0_2 (i : Nat) : BufTy := match i % 128 with
  | 0 => ⟨S150000, .f32⟩
  | 1 => ⟨S150000, .f32⟩
  | 2 => ⟨S_, .f32⟩
  | 3 => ⟨S150000, .f32⟩
  | 4 => ⟨S150000, .f32⟩
  | 5 => ⟨S_, .f32⟩
  | 6 => ⟨S150000, .f32⟩
  | 7 => ⟨S150000, .f32⟩
  | 8 => ⟨S_, .i32⟩
  | 9 => ⟨S_, .i32⟩
  | 10 => ⟨S_, .f32⟩
  | 11 => ⟨S150000, .f32⟩
  | 12 => ⟨S150000, .f32⟩
  | 13 => ⟨S_, .f32⟩
  | 14 => ⟨S150000, .f32⟩
  | 15 => ⟨S150000, .f32⟩
  | 16 => ⟨S150000, .i32⟩
  | 17 => ⟨S150000, .i32⟩
  | 18 => ⟨S150000, .i32⟩
  | 19 => ⟨S150000, .i32⟩
  | 20 => ⟨S_, .i32⟩
  | 21 => ⟨S150000, .i32⟩
  | 22 => ⟨S150000, .i1⟩
  | 23 => ⟨S_, .i32⟩
  | 24 => ⟨S150000, .i32⟩
  | 25 => ⟨S150000, .i32⟩
  | 26 => ⟨S150000, .i32⟩
  | 27 => ⟨S_, .i32⟩
  | 28 => ⟨S150000, .i32⟩
  | 29 => ⟨S150000, .i1⟩
  | 30 => ⟨S_, .i32⟩
  | 31 => ⟨S150000, .i32⟩
  | 32 => ⟨S150000, .i32⟩
  | 33 => ⟨S150000, .i32⟩
  | 34 => ⟨S150000x1, .i32⟩
  | 35 => ⟨S150000x1, .i32⟩
  | 36 => ⟨S150000x2, .i32⟩
  | 37 => ⟨S4x150000, .f32⟩
  | 38 => ⟨S150000, .f32⟩
  | 39 => ⟨S1x150000, .f32⟩
  | 40 => ⟨S4x150000, .f32⟩
  | 41 => ⟨S4x150000, .f32⟩
  | 42 => ⟨S150000, .f32⟩
  | 43 => ⟨S1x150000, .f32⟩
  | 44 => ⟨S4x150000, .f32⟩
  | 45 => ⟨S4x150000, .f32⟩
  | 46 => ⟨S_, .i32⟩
  | 47 => ⟨S150000, .i32⟩
  | 48 => ⟨S150000, .i1⟩
  | 49 => ⟨S_, .i32⟩
  | 50 => ⟨S150000, .i32⟩
  | 51 => ⟨S150000, .i32⟩
  | 52 => ⟨S150000, .i32⟩
  | 53 => ⟨S_, .i32⟩
  | 54 => ⟨S150000, .i32⟩
  | 55 => ⟨S150000, .i1⟩
  | 56 => ⟨S_, .i32⟩
  | 57 => ⟨S150000, .i32⟩
  | 58 => ⟨S150000, .i32⟩
  | 59 => ⟨S150000, .i32⟩
  | 60 => ⟨S150000x1, .i32⟩
  | 61 => ⟨S150000x1, .i32⟩
  | 62 => ⟨S150000x2, .i32⟩
  | 63 => ⟨S4x150000, .f32⟩
  | 64 => ⟨S150000, .f32⟩
  | 65 => ⟨S1x150000, .f32⟩
  | 66 => ⟨S4x150000, .f32⟩
  | 67 => ⟨S4x150000, .f32⟩
  | 68 => ⟨S150000, .f32⟩
  | 69 => ⟨S1x150000, .f32⟩
  | 70 => ⟨S4x150000, .f32⟩
  | 71 => ⟨S4x150000, .f32⟩
  | 72 => ⟨S4x150000, .f32⟩
  | 73 => ⟨S_, .i32⟩
  | 74 => ⟨S150000, .i32⟩
  | 75 => ⟨S150000, .i1⟩
  | 76 => ⟨S_, .i32⟩
  | 77 => ⟨S150000, .i32⟩
  | 78 => ⟨S150000, .i32⟩
  | 79 => ⟨S150000, .i32⟩
  | 80 => ⟨S_, .i32⟩
  | 81 => ⟨S150000, .i32⟩
  | 82 => ⟨S150000, .i1⟩
  | 83 => ⟨S_, .i32⟩
  | 84 => ⟨S150000, .i32⟩
  | 85 => ⟨S150000, .i32⟩
  | 86 => ⟨S150000, .i32⟩
  | 87 => ⟨S150000x1, .i32⟩
  | 88 => ⟨S150000x1, .i32⟩
  | 89 => ⟨S150000x2, .i32⟩
  | 90 => ⟨S4x150000, .f32⟩
  | 91 => ⟨S150000, .f32⟩
  | 92 => ⟨S1x150000, .f32⟩
  | 93 => ⟨S4x150000, .f32⟩
  | 94 => ⟨S4x150000, .f32⟩
  | 95 => ⟨S150000, .f32⟩
  | 96 => ⟨S1x150000, .f32⟩
  | 97 => ⟨S4x150000, .f32⟩
  | 98 => ⟨S4x150000, .f32⟩
  | 99 => ⟨S4x150000, .f32⟩
  | 100 => ⟨S_, .i32⟩
  | 101 => ⟨S150000, .i32⟩
  | 102 => ⟨S150000, .i1⟩
  | 103 => ⟨S_, .i32⟩
  | 104 => ⟨S150000, .i32⟩
  | 105 => ⟨S150000, .i32⟩
  | 106 => ⟨S150000, .i32⟩
  | 107 => ⟨S_, .i32⟩
  | 108 => ⟨S150000, .i32⟩
  | 109 => ⟨S150000, .i1⟩
  | 110 => ⟨S_, .i32⟩
  | 111 => ⟨S150000, .i32⟩
  | 112 => ⟨S150000, .i32⟩
  | 113 => ⟨S150000, .i32⟩
  | 114 => ⟨S150000x1, .i32⟩
  | 115 => ⟨S150000x1, .i32⟩
  | 116 => ⟨S150000x2, .i32⟩
  | 117 => ⟨S4x150000, .f32⟩
  | 118 => ⟨S150000, .f32⟩
  | 119 => ⟨S1x150000, .f32⟩
  | 120 => ⟨S4x150000, .f32⟩
  | 121 => ⟨S4x150000, .f32⟩
  | 122 => ⟨S150000, .f32⟩
  | 123 => ⟨S1x150000, .f32⟩
  | 124 => ⟨S4x150000, .f32⟩
  | 125 => ⟨S4x150000, .f32⟩
  | 126 => ⟨S4x150000, .f32⟩
  | 127 => ⟨S4x5000x30, .f32⟩
  | _ => ⟨S256x128x128, .f32⟩

abbrev hbmTy0_3 (i : Nat) : BufTy := match i % 128 with
  | 0 => ⟨S5000x30x4, .f32⟩
  | 1 => ⟨S5000x120, .f32⟩
  | 2 => ⟨S5000x1, .f32⟩
  | 3 => ⟨S5000, .f32⟩
  | 4 => ⟨S5000x1, .f32⟩
  | 5 => ⟨S5000, .f32⟩
  | 6 => ⟨S5000, .f32⟩
  | 7 => ⟨S_, .i32⟩
  | 8 => ⟨S_, .i32⟩
  | 9 => ⟨S_, .f32⟩
  | 10 => ⟨S5000, .f32⟩
  | 11 => ⟨S5000, .f32⟩
  | 12 => ⟨S_, .f32⟩
  | 13 => ⟨S5000, .f32⟩
  | 14 => ⟨S5000, .f32⟩
  | 15 => ⟨S5000, .f32⟩
  | 16 => ⟨S_, .i32⟩
  | 17 => ⟨S_, .i32⟩
  | 18 => ⟨S_, .f32⟩
  | 19 => ⟨S5000, .f32⟩
  | 20 => ⟨S5000, .f32⟩
  | 21 => ⟨S_, .f32⟩
  | 22 => ⟨S5000, .f32⟩
  | 23 => ⟨S5000, .f32⟩
  | 24 => ⟨S_, .f32⟩
  | 25 => ⟨S5000, .f32⟩
  | 26 => ⟨S5000, .f32⟩
  | 27 => ⟨S_, .i32⟩
  | 28 => ⟨S_, .i32⟩
  | 29 => ⟨S_, .f32⟩
  | 30 => ⟨S5000, .f32⟩
  | 31 => ⟨S5000, .f32⟩
  | 32 => ⟨S_, .f32⟩
  | 33 => ⟨S5000, .f32⟩
  | 34 => ⟨S5000, .f32⟩
  | 35 => ⟨S_, .f32⟩
  | 36 => ⟨S5000, .f32⟩
  | 37 => ⟨S5000, .f32⟩
  | 38 => ⟨S_, .i32⟩
  | 39 => ⟨S_, .i32⟩
  | 40 => ⟨S_, .f32⟩
  | 41 => ⟨S5000, .f32⟩
  | 42 => ⟨S5000, .f32⟩
  | 43 => ⟨S_, .f32⟩
  | 44 => ⟨S5000, .f32⟩
  | 45 => ⟨S5000, .f32⟩
  | 46 => ⟨S5000, .i32⟩
  | 47 => ⟨S5000, .i32⟩
  | 48 => ⟨S5000, .i32⟩
  | 49 => ⟨S5000, .i32⟩
  | 50 => ⟨S_, .i32⟩
  | 51 => ⟨S5000, .i32⟩
  | 52 => ⟨S5000, .i1⟩
  | 53 => ⟨S_, .i32⟩
  | 54 => ⟨S5000, .i32⟩
  | 55 => ⟨S5000, .i32⟩
  | 56 => ⟨S5000, .i32⟩
  | 57 => ⟨S_, .i32⟩
  | 58 => ⟨S5000, .i32⟩
  | 59 => ⟨S5000, .i1⟩
  | 60 => ⟨S_, .i32⟩
  | 61 => ⟨S5000, .i32⟩
  | 62 => ⟨S5000, .i32⟩
  | 63 => ⟨S5000, .i32⟩
  | 64 => ⟨S5000x1, .i32⟩
  | 65 => ⟨S5000x1, .i32⟩
  | 66 => ⟨S5000x2, .i32⟩
  | 67 => ⟨S128x5000, .f32⟩
  | 68 => ⟨S5000, .f32⟩
  | 69 => ⟨S1x5000, .f32⟩
  | 70 => ⟨S128x5000, .f32⟩
  | 71 => ⟨S128x5000, .f32⟩
  | 72 => ⟨S5000, .f32⟩
  | 73 => ⟨S1x5000, .f32⟩
  | 74 => ⟨S128x5000, .f32⟩
  | 75 => ⟨S128x5000, .f32⟩
  | 76 => ⟨S_, .i32⟩
  | 77 => ⟨S5000, .i32⟩
  | 78 => ⟨S5000, .i1⟩
  | 79 => ⟨S_, .i32⟩
  | 80 => ⟨S5000, .i32⟩
  | 81 => ⟨S5000, .i32⟩
  | 82 => ⟨S5000, .i32⟩
  | 83 => ⟨S_, .i32⟩
  | 84 => ⟨S5000, .i32⟩
  | 85 => ⟨S5000, .i1⟩
  | 86 => ⟨S_, .i32⟩
  | 87 => ⟨S5000, .i32⟩
  | 88 => ⟨S5000, .i32⟩
  | 89 => ⟨S5000, .i32⟩
  | 90 => ⟨S5000x1, .i32⟩
  | 91 => ⟨S5000x1, .i32⟩
  | 92 => ⟨S5000x2, .i32⟩
  | 93 => ⟨S128x5000, .f32⟩
  | 94 => ⟨S5000, .f32⟩
  | 95 => ⟨S1x5000, .f32⟩
  | 96 => ⟨S128x5000, .f32⟩
  | 97 => ⟨S128x5000, .f32⟩
  | 98 => ⟨S5000, .f32⟩
  | 99 => ⟨S1x5000, .f32⟩
  | 100 => ⟨S128x5000, .f32⟩
  | 101 => ⟨S128x5000, .f32⟩
  | 102 => ⟨S128x5000, .f32⟩
  | 103 => ⟨S_, .i32⟩
  | 104 => ⟨S5000, .i32⟩
  | 105 => ⟨S5000, .i1⟩
  | 106 => ⟨S_, .i32⟩
  | 107 => ⟨S5000, .i32⟩
  | 108 => ⟨S5000, .i32⟩
  | 109 => ⟨S5000, .i32⟩
  | 110 => ⟨S_, .i32⟩
  | 111 => ⟨S5000, .i32⟩
  | 112 => ⟨S5000, .i1⟩
  | 113 => ⟨S_, .i32⟩
  | 114 => ⟨S5000, .i32⟩
  | 115 => ⟨S5000, .i32⟩
  | 116 => ⟨S5000, .i32⟩
  | 117 => ⟨S5000x1, .i32⟩
  | 118 => ⟨S5000x1, .i32⟩
  | 119 => ⟨S5000x2, .i32⟩
  | 120 => ⟨S128x5000, .f32⟩
  | 121 => ⟨S5000, .f32⟩
  | 122 => ⟨S1x5000, .f32⟩
  | 123 => ⟨S128x5000, .f32⟩
  | 124 => ⟨S128x5000, .f32⟩
  | 125 => ⟨S5000, .f32⟩
  | 126 => ⟨S1x5000, .f32⟩
  | 127 => ⟨S128x5000, .f32⟩
  | _ => ⟨S256x128x128, .f32⟩

abbrev hbmTy0_4 (i : Nat) : BufTy := match i % 128 with
  | 0 => ⟨S128x5000, .f32⟩
  | 1 => ⟨S128x5000, .f32⟩
  | 2 => ⟨S_, .i32⟩
  | 3 => ⟨S5000, .i32⟩
  | 4 => ⟨S5000, .i1⟩
  | 5 => ⟨S_, .i32⟩
  | 6 => ⟨S5000, .i32⟩
  | 7 => ⟨S5000, .i32⟩
  | 8 => ⟨S5000, .i32⟩
  | 9 => ⟨S_, .i32⟩
  | 10 => ⟨S5000, .i32⟩
  | 11 => ⟨S5000, .i1⟩
  | 12 => ⟨S_, .i32⟩
  | 13 => ⟨S5000, .i32⟩
  | 14 => ⟨S5000, .i32⟩
  | 15 => ⟨S5000, .i32⟩
  | 16 => ⟨S5000x1, .i32⟩
  | 17 => ⟨S5000x1, .i32⟩
  | 18 => ⟨S5000x2, .i32⟩
  | 19 => ⟨S128x5000, .f32⟩
  | 20 => ⟨S5000, .f32⟩
  | 21 => ⟨S1x5000, .f32⟩
  | 22 => ⟨S128x5000, .f32⟩
  | 23 => ⟨S128x5000, .f32⟩
  | 24 => ⟨S5000, .f32⟩
  | 25 => ⟨S1x5000, .f32⟩
  | 26 => ⟨S128x5000, .f32⟩
  | 27 => ⟨S128x5000, .f32⟩
  | 28 => ⟨S128x5000, .f32⟩
  | 29 => ⟨S5000x128, .f32⟩
  | 30 => ⟨S5000x1, .f32⟩
  | 31 => ⟨S5000, .f32⟩
  | 32 => ⟨S5000x1, .f32⟩
  | 33 => ⟨S5000, .f32⟩
  | 34 => ⟨S5000, .f32⟩
  | 35 => ⟨S_, .i32⟩
  | 36 => ⟨S_, .i32⟩
  | 37 => ⟨S_, .f32⟩
  | 38 => ⟨S5000, .f32⟩
  | 39 => ⟨S5000, .f32⟩
  | 40 => ⟨S_, .f32⟩
  | 41 => ⟨S5000, .f32⟩
  | 42 => ⟨S5000, .f32⟩
  | 43 => ⟨S5000, .f32⟩
  | 44 => ⟨S_, .i32⟩
  | 45 => ⟨S_, .i32⟩
  | 46 => ⟨S_, .f32⟩
  | 47 => ⟨S5000, .f32⟩
  | 48 => ⟨S5000, .f32⟩
  | 49 => ⟨S_, .f32⟩
  | 50 => ⟨S5000, .f32⟩
  | 51 => ⟨S5000, .f32⟩
  | 52 => ⟨S_, .f32⟩
  | 53 => ⟨S5000, .f32⟩
  | 54 => ⟨S5000, .f32⟩
  | 55 => ⟨S_, .i32⟩
  | 56 => ⟨S_, .i32⟩
  | 57 => ⟨S_, .f32⟩
  | 58 => ⟨S5000, .f32⟩
  | 59 => ⟨S5000, .f32⟩
  | 60 => ⟨S_, .f32⟩
  | 61 => ⟨S5000, .f32⟩
  | 62 => ⟨S5000, .f32⟩
  | 63 => ⟨S_, .f32⟩
  | 64 => ⟨S5000, .f32⟩
  | 65 => ⟨S5000, .f32⟩
  | 66 => ⟨S_, .i32⟩
  | 67 => ⟨S_, .i32⟩
  | 68 => ⟨S_, .f32⟩
  | 69 => ⟨S5000, .f32⟩
  | 70 => ⟨S5000, .f32⟩
  | 71 => ⟨S_, .f32⟩
  | 72 => ⟨S5000, .f32⟩
  | 73 => ⟨S5000, .f32⟩
  | 74 => ⟨S5000, .i32⟩
  | 75 => ⟨S5000, .i32⟩
  | 76 => ⟨S5000, .i32⟩
  | 77 => ⟨S5000, .i32⟩
  | 78 => ⟨S_, .i32⟩
  | 79 => ⟨S5000, .i32⟩
  | 80 => ⟨S5000, .i1⟩
  | 81 => ⟨S_, .i32⟩
  | 82 => ⟨S5000, .i32⟩
  | 83 => ⟨S5000, .i32⟩
  | 84 => ⟨S5000, .i32⟩
  | 85 => ⟨S_, .i32⟩
  | 86 => ⟨S5000, .i32⟩
  | 87 => ⟨S5000, .i1⟩
  | 88 => ⟨S_, .i32⟩
  | 89 => ⟨S5000, .i32⟩
  | 90 => ⟨S5000, .i32⟩
  | 91 => ⟨S5000, .i32⟩
  | 92 => ⟨S5000x1, .i32⟩
  | 93 => ⟨S5000x1, .i32⟩
  | 94 => ⟨S5000x2, .i32⟩
  | 95 => ⟨S128x5000, .f32⟩
  | 96 => ⟨S5000, .f32⟩
  | 97 => ⟨S1x5000, .f32⟩
  | 98 => ⟨S128x5000, .f32⟩
  | 99 => ⟨S128x5000, .f32⟩
  | 100 => ⟨S5000, .f32⟩
  | 101 => ⟨S1x5000, .f32⟩
  | 102 => ⟨S128x5000, .f32⟩
  | 103 => ⟨S128x5000, .f32⟩
  | 104 => ⟨S_, .i32⟩
  | 105 => ⟨S5000, .i32⟩
  | 106 => ⟨S5000, .i1⟩
  | 107 => ⟨S_, .i32⟩
  | 108 => ⟨S5000, .i32⟩
  | 109 => ⟨S5000, .i32⟩
  | 110 => ⟨S5000, .i32⟩
  | 111 => ⟨S_, .i32⟩
  | 112 => ⟨S5000, .i32⟩
  | 113 => ⟨S5000, .i1⟩
  | 114 => ⟨S_, .i32⟩
  | 115 => ⟨S5000, .i32⟩
  | 116 => ⟨S5000, .i32⟩
  | 117 => ⟨S5000, .i32⟩
  | 118 => ⟨S5000x1, .i32⟩
  | 119 => ⟨S5000x1, .i32⟩
  | 120 => ⟨S5000x2, .i32⟩
  | 121 => ⟨S128x5000, .f32⟩
  | 122 => ⟨S5000, .f32⟩
  | 123 => ⟨S1x5000, .f32⟩
  | 124 => ⟨S128x5000, .f32⟩
  | 125 => ⟨S128x5000, .f32⟩
  | 126 => ⟨S5000, .f32⟩
  | 127 => ⟨S1x5000, .f32⟩
  | _ => ⟨S256x128x128, .f32⟩

abbrev hbmTy0_5 (i : Nat) : BufTy := match i % 128 with
  | 0 => ⟨S128x5000, .f32⟩
  | 1 => ⟨S128x5000, .f32⟩
  | 2 => ⟨S128x5000, .f32⟩
  | 3 => ⟨S_, .i32⟩
  | 4 => ⟨S5000, .i32⟩
  | 5 => ⟨S5000, .i1⟩
  | 6 => ⟨S_, .i32⟩
  | 7 => ⟨S5000, .i32⟩
  | 8 => ⟨S5000, .i32⟩
  | 9 => ⟨S5000, .i32⟩
  | 10 => ⟨S_, .i32⟩
  | 11 => ⟨S5000, .i32⟩
  | 12 => ⟨S5000, .i1⟩
  | 13 => ⟨S_, .i32⟩
  | 14 => ⟨S5000, .i32⟩
  | 15 => ⟨S5000, .i32⟩
  | 16 => ⟨S5000, .i32⟩
  | 17 => ⟨S5000x1, .i32⟩
  | 18 => ⟨S5000x1, .i32⟩
  | 19 => ⟨S5000x2, .i32⟩
  | 20 => ⟨S128x5000, .f32⟩
  | 21 => ⟨S5000, .f32⟩
  | 22 => ⟨S1x5000, .f32⟩
  | 23 => ⟨S128x5000, .f32⟩
  | 24 => ⟨S128x5000, .f32⟩
  | 25 => ⟨S5000, .f32⟩
  | 26 => ⟨S1x5000, .f32⟩
  | 27 => ⟨S128x5000, .f32⟩
  | 28 => ⟨S128x5000, .f32⟩
  | 29 => ⟨S128x5000, .f32⟩
  | 30 => ⟨S_, .i32⟩
  | 31 => ⟨S5000, .i32⟩
  | 32 => ⟨S5000, .i1⟩
  | 33 => ⟨S_, .i32⟩
  | 34 => ⟨S5000, .i32⟩
  | 35 => ⟨S5000, .i32⟩
  | 36 => ⟨S5000, .i32⟩
  | 37 => ⟨S_, .i32⟩
  | 38 => ⟨S5000, .i32⟩
  | 39 => ⟨S5000, .i1⟩
  | 40 => ⟨S_, .i32⟩
  | 41 => ⟨S5000, .i32⟩
  | 42 => ⟨S5000, .i32⟩
  | 43 => ⟨S5000, .i32⟩
  | 44 => ⟨S5000x1, .i32⟩
  | 45 => ⟨S5000x1, .i32⟩
  | 46 => ⟨S5000x2, .i32⟩
  | 47 => ⟨S128x5000, .f32⟩
  | 48 => ⟨S5000, .f32⟩
  | 49 => ⟨S1x5000, .f32⟩
  | 50 => ⟨S128x5000, .f32⟩
  | 51 => ⟨S128x5000, .f32⟩
  | 52 => ⟨S5000, .f32⟩
  | 53 => ⟨S1x5000, .f32⟩
  | 54 => ⟨S128x5000, .f32⟩
  | 55 => ⟨S128x5000, .f32⟩
  | 56 => ⟨S128x5000, .f32⟩
  | 57 => ⟨S5000x128, .f32⟩
  | 58 => ⟨S5000x496, .f32⟩
  | 59 => ⟨S496x1024, .f32⟩
  | 60 => ⟨S5000x1024, .f32⟩
  | 61 => ⟨S1x1024, .f32⟩
  | 62 => ⟨S5000x1024, .f32⟩
  | 63 => ⟨S5000x1024, .f32⟩
  | 64 => ⟨S_, .f32⟩
  | 65 => ⟨S5000x1024, .f32⟩
  | 66 => ⟨S5000x1024, .f32⟩
  | 67 => ⟨S1024x1024, .f32⟩
  | 68 => ⟨S5000x1024, .f32⟩
  | 69 => ⟨S1x1024, .f32⟩
  | 70 => ⟨S5000x1024, .f32⟩
  | 71 => ⟨S5000x1024, .f32⟩
  | 72 => ⟨S_, .f32⟩
  | 73 => ⟨S5000x1024, .f32⟩
  | 74 => ⟨S5000x1024, .f32⟩
  | 75 => ⟨S1024x1024, .f32⟩
  | 76 => ⟨S5000x1024, .f32⟩
  | 77 => ⟨S1x1024, .f32⟩
  | 78 => ⟨S5000x1024, .f32⟩
  | 79 => ⟨S5000x1024, .f32⟩
  | 80 => ⟨S1024x1, .f32⟩
  | 81 => ⟨S5000x1, .f32⟩
  | 82 => ⟨S1x1, .f32⟩
  | 83 => ⟨S5000x1, .f32⟩
  | 84 => ⟨S5000x1, .f32⟩
  | 85 => ⟨S5000, .f32⟩
  | _ => ⟨S256x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S256x128x128, .f32⟩

abbrev bufTy : (tb : Table) → Fin (tcTables nBuf tb) → BufTy
  | .hbm, ⟨i, _⟩ => hbmTy i
  | _, _ => ⟨S256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_cst : Ref sig .tc := ⟨.hbm, 33, rfl⟩
abbrev main_call0_v3 : Ref sig .tc := ⟨.hbm, 34, rfl⟩
abbrev main_call0_v4 : Ref sig .tc := ⟨.hbm, 35, rfl⟩
abbrev main_call0_cst_0 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_v15 : Ref sig .tc := ⟨.hbm, 48, rfl⟩
abbrev main_call0_v16 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c : Ref sig .tc := ⟨.hbm, 75, rfl⟩
abbrev main_c_2 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v36 : Ref sig .tc := ⟨.hbm, 82, rfl⟩
abbrev main_v37 : Ref sig .tc := ⟨.hbm, 83, rfl⟩
abbrev main_c_3 : Ref sig .tc := ⟨.hbm, 84, rfl⟩
abbrev main_c_4 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v38 : Ref sig .tc := ⟨.hbm, 91, rfl⟩
abbrev main_cst_5 : Ref sig .tc := ⟨.hbm, 92, rfl⟩
abbrev main_v39 : Ref sig .tc := ⟨.hbm, 93, rfl⟩
abbrev main_v40 : Ref sig .tc := ⟨.hbm, 94, rfl⟩
abbrev main_c_6 : Ref sig .tc := ⟨.hbm, 95, rfl⟩
abbrev main_c_7 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v41 : Ref sig .tc := ⟨.hbm, 102, rfl⟩
abbrev main_cst_8 : Ref sig .tc := ⟨.hbm, 103, rfl⟩
abbrev main_v42 : Ref sig .tc := ⟨.hbm, 104, rfl⟩
abbrev main_v43 : Ref sig .tc := ⟨.hbm, 105, rfl⟩
abbrev main_c_9 : Ref sig .tc := ⟨.hbm, 106, rfl⟩
abbrev main_c_10 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_c_11 : Ref sig .tc := ⟨.hbm, 118, rfl⟩
abbrev main_v49 : Ref sig .tc := ⟨.hbm, 119, rfl⟩
abbrev main_v50 : Ref sig .tc := ⟨.hbm, 120, rfl⟩
abbrev main_c_12 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_c_13 : Ref sig .tc := ⟨.hbm, 125, rfl⟩
abbrev main_v54 : Ref sig .tc := ⟨.hbm, 126, rfl⟩
abbrev main_v55 : Ref sig .tc := ⟨.hbm, 127, rfl⟩
abbrev main_c_14 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_c_15 : Ref sig .tc := ⟨.hbm, 144, rfl⟩
abbrev main_v71 : Ref sig .tc := ⟨.hbm, 145, rfl⟩
abbrev main_v72 : Ref sig .tc := ⟨.hbm, 146, rfl⟩
abbrev main_c_16 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_c_17 : Ref sig .tc := ⟨.hbm, 151, rfl⟩
abbrev main_v76 : Ref sig .tc := ⟨.hbm, 152, rfl⟩
abbrev main_v77 : Ref sig .tc := ⟨.hbm, 153, rfl⟩
abbrev main_c_18 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_c_19 : Ref sig .tc := ⟨.hbm, 171, rfl⟩
abbrev main_v94 : Ref sig .tc := ⟨.hbm, 172, rfl⟩
abbrev main_v95 : Ref sig .tc := ⟨.hbm, 173, rfl⟩
abbrev main_c_20 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_c_21 : Ref sig .tc := ⟨.hbm, 178, rfl⟩
abbrev main_v99 : Ref sig .tc := ⟨.hbm, 179, rfl⟩
abbrev main_v100 : Ref sig .tc := ⟨.hbm, 180, rfl⟩
abbrev main_c_22 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_c_23 : Ref sig .tc := ⟨.hbm, 198, rfl⟩
abbrev main_v117 : Ref sig .tc := ⟨.hbm, 199, rfl⟩
abbrev main_v118 : Ref sig .tc := ⟨.hbm, 200, rfl⟩
abbrev main_c_24 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_c_25 : Ref sig .tc := ⟨.hbm, 205, rfl⟩
abbrev main_v122 : Ref sig .tc := ⟨.hbm, 206, rfl⟩
abbrev main_v123 : Ref sig .tc := ⟨.hbm, 207, rfl⟩
abbrev main_c_26 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_c_27 : Ref sig .tc := ⟨.hbm, 233, rfl⟩
abbrev main_c_28 : Ref sig .tc := ⟨.hbm, 234, rfl⟩
abbrev main_call5_v0 : Ref sig .tc := ⟨.hbm, 235, rfl⟩
abbrev main_call5_v1 : Ref sig .tc := ⟨.hbm, 236, rfl⟩
abbrev main_call5_v2 : Ref sig .tc := ⟨.hbm, 237, rfl⟩
abbrev main_call5_v3 : Ref sig .tc := ⟨.hbm, 238, rfl⟩
abbrev main_call5_v4 : Ref sig .tc := ⟨.hbm, 239, rfl⟩
abbrev main_v148 : Ref sig .tc := ⟨.hbm, 240, rfl⟩
abbrev main_v149 : Ref sig .tc := ⟨.hbm, 241, rfl⟩
abbrev main_c_29 : Ref sig .tc := ⟨.hbm, 242, rfl⟩
abbrev main_c_30 : Ref sig .tc := ⟨.hbm, 243, rfl⟩
abbrev main_call6_v0 : Ref sig .tc := ⟨.hbm, 244, rfl⟩
abbrev main_call6_v1 : Ref sig .tc := ⟨.hbm, 245, rfl⟩
abbrev main_call6_v2 : Ref sig .tc := ⟨.hbm, 246, rfl⟩
abbrev main_call6_v3 : Ref sig .tc := ⟨.hbm, 247, rfl⟩
abbrev main_call6_v4 : Ref sig .tc := ⟨.hbm, 248, rfl⟩
abbrev main_v150 : Ref sig .tc := ⟨.hbm, 249, rfl⟩
abbrev main_cst_31 : Ref sig .tc := ⟨.hbm, 250, rfl⟩
abbrev main_v151 : Ref sig .tc := ⟨.hbm, 251, rfl⟩
abbrev main_v152 : Ref sig .tc := ⟨.hbm, 252, rfl⟩
abbrev main_c_32 : Ref sig .tc := ⟨.hbm, 253, rfl⟩
abbrev main_c_33 : Ref sig .tc := ⟨.hbm, 254, rfl⟩
abbrev main_call7_v0 : Ref sig .tc := ⟨.hbm, 255, rfl⟩
abbrev main_call7_v1 : Ref sig .tc := ⟨.hbm, 256, rfl⟩
abbrev main_call7_v2 : Ref sig .tc := ⟨.hbm, 257, rfl⟩
abbrev main_call7_v3 : Ref sig .tc := ⟨.hbm, 258, rfl⟩
abbrev main_call7_v4 : Ref sig .tc := ⟨.hbm, 259, rfl⟩
abbrev main_v153 : Ref sig .tc := ⟨.hbm, 260, rfl⟩
abbrev main_cst_34 : Ref sig .tc := ⟨.hbm, 261, rfl⟩
abbrev main_v154 : Ref sig .tc := ⟨.hbm, 262, rfl⟩
abbrev main_v155 : Ref sig .tc := ⟨.hbm, 263, rfl⟩
abbrev main_c_35 : Ref sig .tc := ⟨.hbm, 264, rfl⟩
abbrev main_c_36 : Ref sig .tc := ⟨.hbm, 265, rfl⟩
abbrev main_call8_v0 : Ref sig .tc := ⟨.hbm, 266, rfl⟩
abbrev main_call8_v1 : Ref sig .tc := ⟨.hbm, 267, rfl⟩
abbrev main_call8_v2 : Ref sig .tc := ⟨.hbm, 268, rfl⟩
abbrev main_call8_v3 : Ref sig .tc := ⟨.hbm, 269, rfl⟩
abbrev main_call8_v4 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_c_37 : Ref sig .tc := ⟨.hbm, 276, rfl⟩
abbrev main_v161 : Ref sig .tc := ⟨.hbm, 277, rfl⟩
abbrev main_v162 : Ref sig .tc := ⟨.hbm, 278, rfl⟩
abbrev main_c_38 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_c_39 : Ref sig .tc := ⟨.hbm, 283, rfl⟩
abbrev main_v166 : Ref sig .tc := ⟨.hbm, 284, rfl⟩
abbrev main_v167 : Ref sig .tc := ⟨.hbm, 285, rfl⟩
abbrev main_c_40 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_v181 : Ref sig .tc := ⟨.hbm, 300, rfl⟩
abbrev main_v182 : Ref sig .tc := ⟨.hbm, 301, rfl⟩
abbrev main_c_41 : Ref sig .tc := ⟨.hbm, 302, rfl⟩
abbrev main_v183 : Ref sig .tc := ⟨.hbm, 303, rfl⟩
abbrev main_v184 : Ref sig .tc := ⟨.hbm, 304, rfl⟩
abbrev main_c_42 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_c_43 : Ref sig .tc := ⟨.hbm, 309, rfl⟩
abbrev main_v188 : Ref sig .tc := ⟨.hbm, 310, rfl⟩
abbrev main_v189 : Ref sig .tc := ⟨.hbm, 311, rfl⟩
abbrev main_c_44 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_v200 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_c_45 : Ref sig .tc := ⟨.hbm, 329, rfl⟩
abbrev main_v206 : Ref sig .tc := ⟨.hbm, 330, rfl⟩
abbrev main_v207 : Ref sig .tc := ⟨.hbm, 331, rfl⟩
abbrev main_c_46 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_c_47 : Ref sig .tc := ⟨.hbm, 336, rfl⟩
abbrev main_v211 : Ref sig .tc := ⟨.hbm, 337, rfl⟩
abbrev main_v212 : Ref sig .tc := ⟨.hbm, 338, rfl⟩
abbrev main_c_48 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_v226 : Ref sig .tc := ⟨.hbm, 353, rfl⟩
abbrev main_v227 : Ref sig .tc := ⟨.hbm, 354, rfl⟩
abbrev main_v228 : Ref sig .tc := ⟨.hbm, 355, rfl⟩
abbrev main_c_49 : Ref sig .tc := ⟨.hbm, 356, rfl⟩
abbrev main_v229 : Ref sig .tc := ⟨.hbm, 357, rfl⟩
abbrev main_v230 : Ref sig .tc := ⟨.hbm, 358, rfl⟩
abbrev main_c_50 : Ref sig .tc := ⟨.hbm, 359, rfl⟩
abbrev main_v231 : Ref sig .tc := ⟨.hbm, 360, rfl⟩
abbrev main_v232 : Ref sig .tc := ⟨.hbm, 361, rfl⟩
abbrev main_v233 : Ref sig .tc := ⟨.hbm, 362, rfl⟩
abbrev main_c_51 : Ref sig .tc := ⟨.hbm, 363, rfl⟩
abbrev main_v234 : Ref sig .tc := ⟨.hbm, 364, rfl⟩
abbrev main_v235 : Ref sig .tc := ⟨.hbm, 365, rfl⟩
abbrev main_c_52 : Ref sig .tc := ⟨.hbm, 366, rfl⟩
abbrev main_v236 : Ref sig .tc := ⟨.hbm, 367, rfl⟩
abbrev main_v237 : Ref sig .tc := ⟨.hbm, 368, rfl⟩
abbrev main_v238 : Ref sig .tc := ⟨.hbm, 369, rfl⟩
abbrev main_v239 : Ref sig .tc := ⟨.hbm, 370, rfl⟩
abbrev main_v240 : Ref sig .tc := ⟨.hbm, 371, rfl⟩
abbrev main_v241 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_v254 : Ref sig .tc := ⟨.hbm, 385, rfl⟩
abbrev main_v255 : Ref sig .tc := ⟨.hbm, 386, rfl⟩
abbrev main_v256 : Ref sig .tc := ⟨.hbm, 387, rfl⟩
abbrev main_v257 : Ref sig .tc := ⟨.hbm, 388, rfl⟩
abbrev main_v258 : Ref sig .tc := ⟨.hbm, 389, rfl⟩
abbrev main_v259 : Ref sig .tc := ⟨.hbm, 390, rfl⟩
abbrev main_c_53 : Ref sig .tc := ⟨.hbm, 391, rfl⟩
abbrev main_c_54 : Ref sig .tc := ⟨.hbm, 392, rfl⟩
abbrev main_call9_v0 : Ref sig .tc := ⟨.hbm, 393, rfl⟩
abbrev main_call9_v1 : Ref sig .tc := ⟨.hbm, 394, rfl⟩
abbrev main_call9_v2 : Ref sig .tc := ⟨.hbm, 395, rfl⟩
abbrev main_call9_v3 : Ref sig .tc := ⟨.hbm, 396, rfl⟩
abbrev main_call9_v4 : Ref sig .tc := ⟨.hbm, 397, rfl⟩
abbrev main_v260 : Ref sig .tc := ⟨.hbm, 398, rfl⟩
abbrev main_v261 : Ref sig .tc := ⟨.hbm, 399, rfl⟩
abbrev main_c_55 : Ref sig .tc := ⟨.hbm, 400, rfl⟩
abbrev main_c_56 : Ref sig .tc := ⟨.hbm, 401, rfl⟩
abbrev main_call10_v0 : Ref sig .tc := ⟨.hbm, 402, rfl⟩
abbrev main_call10_v1 : Ref sig .tc := ⟨.hbm, 403, rfl⟩
abbrev main_call10_v2 : Ref sig .tc := ⟨.hbm, 404, rfl⟩
abbrev main_call10_v3 : Ref sig .tc := ⟨.hbm, 405, rfl⟩
abbrev main_call10_v4 : Ref sig .tc := ⟨.hbm, 406, rfl⟩
abbrev main_v262 : Ref sig .tc := ⟨.hbm, 407, rfl⟩
abbrev main_cst_57 : Ref sig .tc := ⟨.hbm, 408, rfl⟩
abbrev main_v263 : Ref sig .tc := ⟨.hbm, 409, rfl⟩
abbrev main_v264 : Ref sig .tc := ⟨.hbm, 410, rfl⟩
abbrev main_c_58 : Ref sig .tc := ⟨.hbm, 411, rfl⟩
abbrev main_c_59 : Ref sig .tc := ⟨.hbm, 412, rfl⟩
abbrev main_call11_v0 : Ref sig .tc := ⟨.hbm, 413, rfl⟩
abbrev main_call11_v1 : Ref sig .tc := ⟨.hbm, 414, rfl⟩
abbrev main_call11_v2 : Ref sig .tc := ⟨.hbm, 415, rfl⟩
abbrev main_call11_v3 : Ref sig .tc := ⟨.hbm, 416, rfl⟩
abbrev main_call11_v4 : Ref sig .tc := ⟨.hbm, 417, rfl⟩
abbrev main_v265 : Ref sig .tc := ⟨.hbm, 418, rfl⟩
abbrev main_cst_60 : Ref sig .tc := ⟨.hbm, 419, rfl⟩
abbrev main_v266 : Ref sig .tc := ⟨.hbm, 420, rfl⟩
abbrev main_v267 : Ref sig .tc := ⟨.hbm, 421, rfl⟩
abbrev main_c_61 : Ref sig .tc := ⟨.hbm, 422, rfl⟩
abbrev main_c_62 : Ref sig .tc := ⟨.hbm, 423, rfl⟩
abbrev main_call12_v0 : Ref sig .tc := ⟨.hbm, 424, rfl⟩
abbrev main_call12_v1 : Ref sig .tc := ⟨.hbm, 425, rfl⟩
abbrev main_call12_v2 : Ref sig .tc := ⟨.hbm, 426, rfl⟩
abbrev main_call12_v3 : Ref sig .tc := ⟨.hbm, 427, rfl⟩
abbrev main_call12_v4 : Ref sig .tc := ⟨.hbm, 428, rfl⟩
abbrev main_v268 : Ref sig .tc := ⟨.hbm, 429, rfl⟩
abbrev main_v269 : Ref sig .tc := ⟨.hbm, 430, rfl⟩
abbrev main_v270 : Ref sig .tc := ⟨.hbm, 431, rfl⟩
abbrev main_v271 : Ref sig .tc := ⟨.hbm, 432, rfl⟩
abbrev main_v272 : Ref sig .tc := ⟨.hbm, 433, rfl⟩
abbrev main_c_63 : Ref sig .tc := ⟨.hbm, 434, rfl⟩
abbrev main_v273 : Ref sig .tc := ⟨.hbm, 435, rfl⟩
abbrev main_v274 : Ref sig .tc := ⟨.hbm, 436, rfl⟩
abbrev main_c_64 : Ref sig .tc := ⟨.hbm, 437, rfl⟩
abbrev main_v275 : Ref sig .tc := ⟨.hbm, 438, rfl⟩
abbrev main_v276 : Ref sig .tc := ⟨.hbm, 439, rfl⟩
abbrev main_v277 : Ref sig .tc := ⟨.hbm, 440, rfl⟩
abbrev main_c_65 : Ref sig .tc := ⟨.hbm, 441, rfl⟩
abbrev main_v278 : Ref sig .tc := ⟨.hbm, 442, rfl⟩
abbrev main_v279 : Ref sig .tc := ⟨.hbm, 443, rfl⟩
abbrev main_c_66 : Ref sig .tc := ⟨.hbm, 444, rfl⟩
abbrev main_v280 : Ref sig .tc := ⟨.hbm, 445, rfl⟩
abbrev main_v281 : Ref sig .tc := ⟨.hbm, 446, rfl⟩
abbrev main_v282 : Ref sig .tc := ⟨.hbm, 447, rfl⟩
abbrev main_v283 : Ref sig .tc := ⟨.hbm, 448, rfl⟩
abbrev main_v284 : Ref sig .tc := ⟨.hbm, 449, rfl⟩
abbrev main_v285 : Ref sig .tc := ⟨.hbm, 450, rfl⟩
abbrev main_v286 : Ref sig .tc := ⟨.hbm, 451, rfl⟩
abbrev main_v287 : Ref sig .tc := ⟨.hbm, 452, rfl⟩
abbrev main_v288 : Ref sig .tc := ⟨.hbm, 453, rfl⟩
abbrev main_v289 : Ref sig .tc := ⟨.hbm, 454, rfl⟩
abbrev main_v290 : Ref sig .tc := ⟨.hbm, 455, rfl⟩
abbrev main_v291 : Ref sig .tc := ⟨.hbm, 456, rfl⟩
abbrev main_v292 : Ref sig .tc := ⟨.hbm, 457, rfl⟩
abbrev main_v293 : Ref sig .tc := ⟨.hbm, 458, rfl⟩
abbrev main_v294 : Ref sig .tc := ⟨.hbm, 459, rfl⟩
abbrev main_c_67 : Ref sig .tc := ⟨.hbm, 460, rfl⟩
abbrev main_v295 : Ref sig .tc := ⟨.hbm, 461, rfl⟩
abbrev main_v296 : Ref sig .tc := ⟨.hbm, 462, rfl⟩
abbrev main_c_68 : Ref sig .tc := ⟨.hbm, 463, rfl⟩
abbrev main_v297 : Ref sig .tc := ⟨.hbm, 464, rfl⟩
abbrev main_v298 : Ref sig .tc := ⟨.hbm, 465, rfl⟩
abbrev main_v299 : Ref sig .tc := ⟨.hbm, 466, rfl⟩
abbrev main_c_69 : Ref sig .tc := ⟨.hbm, 467, rfl⟩
abbrev main_v300 : Ref sig .tc := ⟨.hbm, 468, rfl⟩
abbrev main_v301 : Ref sig .tc := ⟨.hbm, 469, rfl⟩
abbrev main_c_70 : Ref sig .tc := ⟨.hbm, 470, rfl⟩
abbrev main_v302 : Ref sig .tc := ⟨.hbm, 471, rfl⟩
abbrev main_v303 : Ref sig .tc := ⟨.hbm, 472, rfl⟩
abbrev main_v304 : Ref sig .tc := ⟨.hbm, 473, rfl⟩
abbrev main_v305 : Ref sig .tc := ⟨.hbm, 474, rfl⟩
abbrev main_v306 : Ref sig .tc := ⟨.hbm, 475, rfl⟩
abbrev main_v307 : Ref sig .tc := ⟨.hbm, 476, rfl⟩
abbrev main_v308 : Ref sig .tc := ⟨.hbm, 477, rfl⟩
abbrev main_v309 : Ref sig .tc := ⟨.hbm, 478, rfl⟩
abbrev main_v310 : Ref sig .tc := ⟨.hbm, 479, rfl⟩
abbrev main_v311 : Ref sig .tc := ⟨.hbm, 480, rfl⟩
abbrev main_v312 : Ref sig .tc := ⟨.hbm, 481, rfl⟩
abbrev main_v313 : Ref sig .tc := ⟨.hbm, 482, rfl⟩
abbrev main_v314 : Ref sig .tc := ⟨.hbm, 483, rfl⟩
abbrev main_v315 : Ref sig .tc := ⟨.hbm, 484, rfl⟩
abbrev main_v316 : Ref sig .tc := ⟨.hbm, 485, rfl⟩
abbrev main_v317 : Ref sig .tc := ⟨.hbm, 486, rfl⟩
abbrev main_c_71 : Ref sig .tc := ⟨.hbm, 487, rfl⟩
abbrev main_v318 : Ref sig .tc := ⟨.hbm, 488, rfl⟩
abbrev main_v319 : Ref sig .tc := ⟨.hbm, 489, rfl⟩
abbrev main_c_72 : Ref sig .tc := ⟨.hbm, 490, rfl⟩
abbrev main_v320 : Ref sig .tc := ⟨.hbm, 491, rfl⟩
abbrev main_v321 : Ref sig .tc := ⟨.hbm, 492, rfl⟩
abbrev main_v322 : Ref sig .tc := ⟨.hbm, 493, rfl⟩
abbrev main_c_73 : Ref sig .tc := ⟨.hbm, 494, rfl⟩
abbrev main_v323 : Ref sig .tc := ⟨.hbm, 495, rfl⟩
abbrev main_v324 : Ref sig .tc := ⟨.hbm, 496, rfl⟩
abbrev main_c_74 : Ref sig .tc := ⟨.hbm, 497, rfl⟩
abbrev main_v325 : Ref sig .tc := ⟨.hbm, 498, rfl⟩
abbrev main_v326 : Ref sig .tc := ⟨.hbm, 499, rfl⟩
abbrev main_v327 : Ref sig .tc := ⟨.hbm, 500, rfl⟩
abbrev main_v328 : Ref sig .tc := ⟨.hbm, 501, rfl⟩
abbrev main_v329 : Ref sig .tc := ⟨.hbm, 502, rfl⟩
abbrev main_v330 : Ref sig .tc := ⟨.hbm, 503, rfl⟩
abbrev main_v331 : Ref sig .tc := ⟨.hbm, 504, rfl⟩
abbrev main_v332 : Ref sig .tc := ⟨.hbm, 505, rfl⟩
abbrev main_v333 : Ref sig .tc := ⟨.hbm, 506, rfl⟩
abbrev main_v334 : Ref sig .tc := ⟨.hbm, 507, rfl⟩
abbrev main_v335 : Ref sig .tc := ⟨.hbm, 508, rfl⟩
abbrev main_v336 : Ref sig .tc := ⟨.hbm, 509, rfl⟩
abbrev main_v337 : Ref sig .tc := ⟨.hbm, 510, rfl⟩
abbrev main_v338 : Ref sig .tc := ⟨.hbm, 511, rfl⟩
abbrev main_v339 : Ref sig .tc := ⟨.hbm, 512, rfl⟩
abbrev main_v340 : Ref sig .tc := ⟨.hbm, 513, rfl⟩
abbrev main_c_75 : Ref sig .tc := ⟨.hbm, 514, rfl⟩
abbrev main_v341 : Ref sig .tc := ⟨.hbm, 515, rfl⟩
abbrev main_v342 : Ref sig .tc := ⟨.hbm, 516, rfl⟩
abbrev main_c_76 : Ref sig .tc := ⟨.hbm, 517, rfl⟩
abbrev main_v343 : Ref sig .tc := ⟨.hbm, 518, rfl⟩
abbrev main_v344 : Ref sig .tc := ⟨.hbm, 519, rfl⟩
abbrev main_v345 : Ref sig .tc := ⟨.hbm, 520, rfl⟩
abbrev main_c_77 : Ref sig .tc := ⟨.hbm, 521, rfl⟩
abbrev main_v346 : Ref sig .tc := ⟨.hbm, 522, rfl⟩
abbrev main_v347 : Ref sig .tc := ⟨.hbm, 523, rfl⟩
abbrev main_c_78 : Ref sig .tc := ⟨.hbm, 524, rfl⟩
abbrev main_v348 : Ref sig .tc := ⟨.hbm, 525, rfl⟩
abbrev main_v349 : Ref sig .tc := ⟨.hbm, 526, rfl⟩
abbrev main_v350 : Ref sig .tc := ⟨.hbm, 527, rfl⟩
abbrev main_v351 : Ref sig .tc := ⟨.hbm, 528, rfl⟩
abbrev main_v352 : Ref sig .tc := ⟨.hbm, 529, rfl⟩
abbrev main_v353 : Ref sig .tc := ⟨.hbm, 530, rfl⟩
abbrev main_v354 : Ref sig .tc := ⟨.hbm, 531, rfl⟩
abbrev main_v355 : Ref sig .tc := ⟨.hbm, 532, rfl⟩
abbrev main_v356 : Ref sig .tc := ⟨.hbm, 533, rfl⟩
abbrev main_v357 : Ref sig .tc := ⟨.hbm, 534, rfl⟩
abbrev main_v358 : Ref sig .tc := ⟨.hbm, 535, rfl⟩
abbrev main_v359 : Ref sig .tc := ⟨.hbm, 536, rfl⟩
abbrev main_v360 : Ref sig .tc := ⟨.hbm, 537, rfl⟩
abbrev main_v361 : Ref sig .tc := ⟨.hbm, 538, rfl⟩
abbrev main_v362 : Ref sig .tc := ⟨.hbm, 539, rfl⟩
abbrev main_v363 : Ref sig .tc := ⟨.hbm, 540, rfl⟩
abbrev main_v364 : Ref sig .tc := ⟨.hbm, 541, rfl⟩
abbrev main_v365 : Ref sig .tc := ⟨.hbm, 542, rfl⟩
abbrev main_v366 : Ref sig .tc := ⟨.hbm, 543, rfl⟩
abbrev main_v367 : Ref sig .tc := ⟨.hbm, 544, rfl⟩
abbrev main_v368 : Ref sig .tc := ⟨.hbm, 545, rfl⟩
abbrev main_v369 : Ref sig .tc := ⟨.hbm, 546, rfl⟩
abbrev main_c_79 : Ref sig .tc := ⟨.hbm, 547, rfl⟩
abbrev main_c_80 : Ref sig .tc := ⟨.hbm, 548, rfl⟩
abbrev main_call13_v0 : Ref sig .tc := ⟨.hbm, 549, rfl⟩
abbrev main_call13_v1 : Ref sig .tc := ⟨.hbm, 550, rfl⟩
abbrev main_call13_v2 : Ref sig .tc := ⟨.hbm, 551, rfl⟩
abbrev main_call13_v3 : Ref sig .tc := ⟨.hbm, 552, rfl⟩
abbrev main_call13_v4 : Ref sig .tc := ⟨.hbm, 553, rfl⟩
abbrev main_v370 : Ref sig .tc := ⟨.hbm, 554, rfl⟩
abbrev main_v371 : Ref sig .tc := ⟨.hbm, 555, rfl⟩
abbrev main_c_81 : Ref sig .tc := ⟨.hbm, 556, rfl⟩
abbrev main_c_82 : Ref sig .tc := ⟨.hbm, 557, rfl⟩
abbrev main_call14_v0 : Ref sig .tc := ⟨.hbm, 558, rfl⟩
abbrev main_call14_v1 : Ref sig .tc := ⟨.hbm, 559, rfl⟩
abbrev main_call14_v2 : Ref sig .tc := ⟨.hbm, 560, rfl⟩
abbrev main_call14_v3 : Ref sig .tc := ⟨.hbm, 561, rfl⟩
abbrev main_call14_v4 : Ref sig .tc := ⟨.hbm, 562, rfl⟩
abbrev main_v372 : Ref sig .tc := ⟨.hbm, 563, rfl⟩
abbrev main_cst_83 : Ref sig .tc := ⟨.hbm, 564, rfl⟩
abbrev main_v373 : Ref sig .tc := ⟨.hbm, 565, rfl⟩
abbrev main_v374 : Ref sig .tc := ⟨.hbm, 566, rfl⟩
abbrev main_c_84 : Ref sig .tc := ⟨.hbm, 567, rfl⟩
abbrev main_c_85 : Ref sig .tc := ⟨.hbm, 568, rfl⟩
abbrev main_call15_v0 : Ref sig .tc := ⟨.hbm, 569, rfl⟩
abbrev main_call15_v1 : Ref sig .tc := ⟨.hbm, 570, rfl⟩
abbrev main_call15_v2 : Ref sig .tc := ⟨.hbm, 571, rfl⟩
abbrev main_call15_v3 : Ref sig .tc := ⟨.hbm, 572, rfl⟩
abbrev main_call15_v4 : Ref sig .tc := ⟨.hbm, 573, rfl⟩
abbrev main_v375 : Ref sig .tc := ⟨.hbm, 574, rfl⟩
abbrev main_cst_86 : Ref sig .tc := ⟨.hbm, 575, rfl⟩
abbrev main_v376 : Ref sig .tc := ⟨.hbm, 576, rfl⟩
abbrev main_v377 : Ref sig .tc := ⟨.hbm, 577, rfl⟩
abbrev main_c_87 : Ref sig .tc := ⟨.hbm, 578, rfl⟩
abbrev main_c_88 : Ref sig .tc := ⟨.hbm, 579, rfl⟩
abbrev main_call16_v0 : Ref sig .tc := ⟨.hbm, 580, rfl⟩
abbrev main_call16_v1 : Ref sig .tc := ⟨.hbm, 581, rfl⟩
abbrev main_call16_v2 : Ref sig .tc := ⟨.hbm, 582, rfl⟩
abbrev main_call16_v3 : Ref sig .tc := ⟨.hbm, 583, rfl⟩
abbrev main_call16_v4 : Ref sig .tc := ⟨.hbm, 584, rfl⟩
abbrev main_v378 : Ref sig .tc := ⟨.hbm, 585, rfl⟩
abbrev main_v379 : Ref sig .tc := ⟨.hbm, 586, rfl⟩
abbrev main_v380 : Ref sig .tc := ⟨.hbm, 587, rfl⟩
abbrev main_v381 : Ref sig .tc := ⟨.hbm, 588, rfl⟩
abbrev main_v382 : Ref sig .tc := ⟨.hbm, 589, rfl⟩
abbrev main_c_89 : Ref sig .tc := ⟨.hbm, 590, rfl⟩
abbrev main_v383 : Ref sig .tc := ⟨.hbm, 591, rfl⟩
abbrev main_v384 : Ref sig .tc := ⟨.hbm, 592, rfl⟩
abbrev main_c_90 : Ref sig .tc := ⟨.hbm, 593, rfl⟩
abbrev main_v385 : Ref sig .tc := ⟨.hbm, 594, rfl⟩
abbrev main_v386 : Ref sig .tc := ⟨.hbm, 595, rfl⟩
abbrev main_v387 : Ref sig .tc := ⟨.hbm, 596, rfl⟩
abbrev main_c_91 : Ref sig .tc := ⟨.hbm, 597, rfl⟩
abbrev main_v388 : Ref sig .tc := ⟨.hbm, 598, rfl⟩
abbrev main_v389 : Ref sig .tc := ⟨.hbm, 599, rfl⟩
abbrev main_c_92 : Ref sig .tc := ⟨.hbm, 600, rfl⟩
abbrev main_v390 : Ref sig .tc := ⟨.hbm, 601, rfl⟩
abbrev main_v391 : Ref sig .tc := ⟨.hbm, 602, rfl⟩
abbrev main_v392 : Ref sig .tc := ⟨.hbm, 603, rfl⟩
abbrev main_v393 : Ref sig .tc := ⟨.hbm, 604, rfl⟩
abbrev main_v394 : Ref sig .tc := ⟨.hbm, 605, rfl⟩
abbrev main_v395 : Ref sig .tc := ⟨.hbm, 606, rfl⟩
abbrev main_v396 : Ref sig .tc := ⟨.hbm, 607, rfl⟩
abbrev main_v397 : Ref sig .tc := ⟨.hbm, 608, rfl⟩
abbrev main_v398 : Ref sig .tc := ⟨.hbm, 609, rfl⟩
abbrev main_v399 : Ref sig .tc := ⟨.hbm, 610, rfl⟩
abbrev main_v400 : Ref sig .tc := ⟨.hbm, 611, rfl⟩
abbrev main_v401 : Ref sig .tc := ⟨.hbm, 612, rfl⟩
abbrev main_v402 : Ref sig .tc := ⟨.hbm, 613, rfl⟩
abbrev main_v403 : Ref sig .tc := ⟨.hbm, 614, rfl⟩
abbrev main_v404 : Ref sig .tc := ⟨.hbm, 615, rfl⟩
abbrev main_c_93 : Ref sig .tc := ⟨.hbm, 616, rfl⟩
abbrev main_v405 : Ref sig .tc := ⟨.hbm, 617, rfl⟩
abbrev main_v406 : Ref sig .tc := ⟨.hbm, 618, rfl⟩
abbrev main_c_94 : Ref sig .tc := ⟨.hbm, 619, rfl⟩
abbrev main_v407 : Ref sig .tc := ⟨.hbm, 620, rfl⟩
abbrev main_v408 : Ref sig .tc := ⟨.hbm, 621, rfl⟩
abbrev main_v409 : Ref sig .tc := ⟨.hbm, 622, rfl⟩
abbrev main_c_95 : Ref sig .tc := ⟨.hbm, 623, rfl⟩
abbrev main_v410 : Ref sig .tc := ⟨.hbm, 624, rfl⟩
abbrev main_v411 : Ref sig .tc := ⟨.hbm, 625, rfl⟩
abbrev main_c_96 : Ref sig .tc := ⟨.hbm, 626, rfl⟩
abbrev main_v412 : Ref sig .tc := ⟨.hbm, 627, rfl⟩
abbrev main_v413 : Ref sig .tc := ⟨.hbm, 628, rfl⟩
abbrev main_v414 : Ref sig .tc := ⟨.hbm, 629, rfl⟩
abbrev main_v415 : Ref sig .tc := ⟨.hbm, 630, rfl⟩
abbrev main_v416 : Ref sig .tc := ⟨.hbm, 631, rfl⟩
abbrev main_v417 : Ref sig .tc := ⟨.hbm, 632, rfl⟩
abbrev main_v418 : Ref sig .tc := ⟨.hbm, 633, rfl⟩
abbrev main_v419 : Ref sig .tc := ⟨.hbm, 634, rfl⟩
abbrev main_v420 : Ref sig .tc := ⟨.hbm, 635, rfl⟩
abbrev main_v421 : Ref sig .tc := ⟨.hbm, 636, rfl⟩
abbrev main_v422 : Ref sig .tc := ⟨.hbm, 637, rfl⟩
abbrev main_v423 : Ref sig .tc := ⟨.hbm, 638, rfl⟩
abbrev main_v424 : Ref sig .tc := ⟨.hbm, 639, rfl⟩
abbrev main_v425 : Ref sig .tc := ⟨.hbm, 640, rfl⟩
abbrev main_v426 : Ref sig .tc := ⟨.hbm, 641, rfl⟩
abbrev main_v427 : Ref sig .tc := ⟨.hbm, 642, rfl⟩
abbrev main_c_97 : Ref sig .tc := ⟨.hbm, 643, rfl⟩
abbrev main_v428 : Ref sig .tc := ⟨.hbm, 644, rfl⟩
abbrev main_v429 : Ref sig .tc := ⟨.hbm, 645, rfl⟩
abbrev main_c_98 : Ref sig .tc := ⟨.hbm, 646, rfl⟩
abbrev main_v430 : Ref sig .tc := ⟨.hbm, 647, rfl⟩
abbrev main_v431 : Ref sig .tc := ⟨.hbm, 648, rfl⟩
abbrev main_v432 : Ref sig .tc := ⟨.hbm, 649, rfl⟩
abbrev main_c_99 : Ref sig .tc := ⟨.hbm, 650, rfl⟩
abbrev main_v433 : Ref sig .tc := ⟨.hbm, 651, rfl⟩
abbrev main_v434 : Ref sig .tc := ⟨.hbm, 652, rfl⟩
abbrev main_c_100 : Ref sig .tc := ⟨.hbm, 653, rfl⟩
abbrev main_v435 : Ref sig .tc := ⟨.hbm, 654, rfl⟩
abbrev main_v436 : Ref sig .tc := ⟨.hbm, 655, rfl⟩
abbrev main_v437 : Ref sig .tc := ⟨.hbm, 656, rfl⟩
abbrev main_v438 : Ref sig .tc := ⟨.hbm, 657, rfl⟩
abbrev main_v439 : Ref sig .tc := ⟨.hbm, 658, rfl⟩
abbrev main_v440 : Ref sig .tc := ⟨.hbm, 659, rfl⟩
abbrev main_v441 : Ref sig .tc := ⟨.hbm, 660, rfl⟩
abbrev main_v442 : Ref sig .tc := ⟨.hbm, 661, rfl⟩
abbrev main_v443 : Ref sig .tc := ⟨.hbm, 662, rfl⟩
abbrev main_v444 : Ref sig .tc := ⟨.hbm, 663, rfl⟩
abbrev main_v445 : Ref sig .tc := ⟨.hbm, 664, rfl⟩
abbrev main_v446 : Ref sig .tc := ⟨.hbm, 665, rfl⟩
abbrev main_v447 : Ref sig .tc := ⟨.hbm, 666, rfl⟩
abbrev main_v448 : Ref sig .tc := ⟨.hbm, 667, rfl⟩
abbrev main_v449 : Ref sig .tc := ⟨.hbm, 668, rfl⟩
abbrev main_v450 : Ref sig .tc := ⟨.hbm, 669, rfl⟩
abbrev main_c_101 : Ref sig .tc := ⟨.hbm, 670, rfl⟩
abbrev main_v451 : Ref sig .tc := ⟨.hbm, 671, rfl⟩
abbrev main_v452 : Ref sig .tc := ⟨.hbm, 672, rfl⟩
abbrev main_c_102 : Ref sig .tc := ⟨.hbm, 673, rfl⟩
abbrev main_v453 : Ref sig .tc := ⟨.hbm, 674, rfl⟩
abbrev main_v454 : Ref sig .tc := ⟨.hbm, 675, rfl⟩
abbrev main_v455 : Ref sig .tc := ⟨.hbm, 676, rfl⟩
abbrev main_c_103 : Ref sig .tc := ⟨.hbm, 677, rfl⟩
abbrev main_v456 : Ref sig .tc := ⟨.hbm, 678, rfl⟩
abbrev main_v457 : Ref sig .tc := ⟨.hbm, 679, rfl⟩
abbrev main_c_104 : Ref sig .tc := ⟨.hbm, 680, rfl⟩
abbrev main_v458 : Ref sig .tc := ⟨.hbm, 681, rfl⟩
abbrev main_v459 : Ref sig .tc := ⟨.hbm, 682, rfl⟩
abbrev main_v460 : Ref sig .tc := ⟨.hbm, 683, rfl⟩
abbrev main_v461 : Ref sig .tc := ⟨.hbm, 684, rfl⟩
abbrev main_v462 : Ref sig .tc := ⟨.hbm, 685, rfl⟩
abbrev main_v463 : Ref sig .tc := ⟨.hbm, 686, rfl⟩
abbrev main_v464 : Ref sig .tc := ⟨.hbm, 687, rfl⟩
abbrev main_v465 : Ref sig .tc := ⟨.hbm, 688, rfl⟩
abbrev main_v466 : Ref sig .tc := ⟨.hbm, 689, rfl⟩
abbrev main_v467 : Ref sig .tc := ⟨.hbm, 690, rfl⟩
abbrev main_v468 : Ref sig .tc := ⟨.hbm, 691, rfl⟩
abbrev main_v469 : Ref sig .tc := ⟨.hbm, 692, rfl⟩
abbrev main_v470 : Ref sig .tc := ⟨.hbm, 693, rfl⟩
abbrev main_v471 : Ref sig .tc := ⟨.hbm, 694, rfl⟩
abbrev main_v472 : Ref sig .tc := ⟨.hbm, 695, rfl⟩
abbrev main_v473 : Ref sig .tc := ⟨.hbm, 696, rfl⟩
abbrev main_v474 : Ref sig .tc := ⟨.hbm, 697, rfl⟩
abbrev main_v475 : Ref sig .tc := ⟨.hbm, 698, rfl⟩
abbrev main_v476 : Ref sig .tc := ⟨.hbm, 699, rfl⟩
abbrev main_v477 : Ref sig .tc := ⟨.hbm, 700, rfl⟩
abbrev main_v478 : Ref sig .tc := ⟨.hbm, 701, rfl⟩
abbrev main_v479 : Ref sig .tc := ⟨.hbm, 702, rfl⟩
abbrev main_v480 : Ref sig .tc := ⟨.hbm, 703, rfl⟩
abbrev main_call17_cst : Ref sig .tc := ⟨.hbm, 704, rfl⟩
abbrev main_call17_v0 : Ref sig .tc := ⟨.hbm, 705, rfl⟩
abbrev main_v481 : Ref sig .tc := ⟨.hbm, 706, rfl⟩
abbrev main_v482 : Ref sig .tc := ⟨.hbm, 707, rfl⟩
abbrev main_v483 : Ref sig .tc := ⟨.hbm, 708, rfl⟩
abbrev main_v484 : Ref sig .tc := ⟨.hbm, 709, rfl⟩
abbrev main_v485 : Ref sig .tc := ⟨.hbm, 710, rfl⟩
abbrev main_v486 : Ref sig .tc := ⟨.hbm, 711, rfl⟩
abbrev main_call18_cst : Ref sig .tc := ⟨.hbm, 712, rfl⟩
abbrev main_call18_v0 : Ref sig .tc := ⟨.hbm, 713, rfl⟩
abbrev main_v487 : Ref sig .tc := ⟨.hbm, 714, rfl⟩
abbrev main_v488 : Ref sig .tc := ⟨.hbm, 715, rfl⟩
abbrev main_v489 : Ref sig .tc := ⟨.hbm, 716, rfl⟩
abbrev main_v490 : Ref sig .tc := ⟨.hbm, 717, rfl⟩
abbrev main_v491 : Ref sig .tc := ⟨.hbm, 718, rfl⟩
abbrev main_v492 : Ref sig .tc := ⟨.hbm, 719, rfl⟩
abbrev main_v493 : Ref sig .tc := ⟨.hbm, 720, rfl⟩
abbrev main_v494 : Ref sig .tc := ⟨.hbm, 721, rfl⟩
abbrev main_v495 : Ref sig .tc := ⟨.hbm, 722, rfl⟩
abbrev main_v496 : Ref sig .tc := ⟨.hbm, 723, rfl⟩
abbrev main_v497 : Ref sig .tc := ⟨.hbm, 724, rfl⟩
abbrev main_v498 : Ref sig .tc := ⟨.hbm, 725, rfl⟩

abbrev nD : Nat := 1
abbrev τ : Topo := Topo.v7x

variable {F : FTy → Type} [FloatOps F]
-- ==== Proof.Payloads.lean ====
/- What each of the four kernel bodies stores, read at one index, at the exact instance: sums of products of the loaded
   blocks. -/
module

public import proofs.«01_k».proof.Proof.Gen.KernelIdeal.Skeleton
public import Idealize.ShloMosaic.Lib.Pointwise
public import Idealize.ShloMosaic.PureOps.IdealRules
public import Idealize.ShloMosaic.Lib.WordCmp

@[expose] public section

set_option maxRecDepth 16384

noncomputable section

namespace Cert.Lines

open Idealize.ShloMosaic Cert.KernelIdeal Cert.KernelIdeal.Gen

/-- The hat weight: one minus the distance of `k` and `p`, cut off below at zero. -/
def hat (k p : EReal) : EReal := max (1 - max (k - p) (-(k - p))) 0

/-- The first convolution's block at one index: the row times the column, and the bias. -/
theorem k0_pay2_apply (v0 : S2048x256.Idx → EReal) (v2 : S256x128.Idx → EReal) (v5 : S1x128.Idx → EReal)
    (a : Fin 2048) (b : Fin 128) :
    k0_pay2 (F := Ideal) v0 v2 v5 (ix2 a b) = (∑ k : Fin 256, v0 (ix2 a k) * v2 (ix2 k b)) + v5 (ix2 0 b) := by
  pointwise [k0_pay2, k0_pay1, dot_S2048x256_S256x128_S2048x128_1_0_0_1_n_n]

/-- The second convolution's block at one index: the row times the column. -/
theorem k0_pay3_apply (v0 : S2048x256.Idx → EReal) (v2 : S256x128.Idx → EReal) (a : Fin 2048) (b : Fin 128) :
    k0_pay3 (F := Ideal) v0 v2 (ix2 a b) = ∑ k : Fin 256, v0 (ix2 a k) * v2 (ix2 k b) := by
  pointwise [k0_pay3, k0_pay1, dot_S2048x256_S256x128_S2048x128_1_0_0_1_n_n]

/-- The point a row of a junction block is at, second coordinate: the line's first end point in the first half of the
    block, its second in the second. -/
def jy (v0 : S128x4.Idx → EReal) (r : Fin 256) : EReal :=
  if h : r.val < 128 then v0 (ix2 ⟨r.val, h⟩ 1) else v0 (ix2 ⟨r.val - 128, by omega⟩ 3)

/-- The point a row of a junction block is at, first coordinate. -/
def jx (v0 : S128x4.Idx → EReal) (r : Fin 256) : EReal :=
  if h : r.val < 128 then v0 (ix2 ⟨r.val, h⟩ 0) else v0 (ix2 ⟨r.val - 128, by omega⟩ 2)

/-- The junction block at one index: hat weights down the columns, hat weights across, and the fold. -/
theorem k1_pay1_apply (v0 : S128x4.Idx → EReal) (v8 : S1x128.Idx → EReal) (v18 : S128x16384.Idx → EReal)
    (v21 : S1x16384.Idx → EReal) (v32 : S16384x128.Idx → EReal) (r : Fin 256) (o : Fin 128) :
    k1_pay1 (F := Ideal) v0 v8 v18 v21 v32 (ix2 r o)
      = ∑ col : Fin 16384, (∑ y : Fin 128, hat (v8 (ix2 0 y)) (jy v0 r) * v18 (ix2 y col))
          * hat (v21 (ix2 0 col)) (jx v0 r) * v32 (ix2 col o) := by
  pointwise [k1_pay1, dot_S256x128_S128x16384_S256x16384_1_0_0_1_n_n, dot_S256x16384_S16384x128_S256x128_1_0_0_1_n_n]
  rfl

/-- The three layers and the head of a block of rows at one index. -/
theorem k3_pay1_apply (v0 : S640x512.Idx → EReal) (v2 : S512x1024.Idx → EReal) (v5 : S1x1024.Idx → EReal)
    (v11 : S1024x1024.Idx → EReal) (v14 : S1x1024.Idx → EReal) (v20 : S1024x1024.Idx → EReal) (v23 : S1x1024.Idx → EReal)
    (v27 : S1024x128.Idx → EReal) (v30 : S1x128.Idx → EReal) (r : Fin 640) (o : Fin 128) :
    k3_pay1 (F := Ideal) v0 v2 v5 v11 v14 v20 v23 v27 v30 (ix2 r o)
      = (∑ l : Fin 1024, ((∑ k : Fin 1024, max ((∑ j : Fin 1024, max ((∑ i : Fin 512, v0 (ix2 r i) * v2 (ix2 i j)) + v5 (ix2 0 j)) 0
          * v11 (ix2 j k)) + v14 (ix2 0 k)) 0 * v20 (ix2 k l)) + v23 (ix2 0 l)) * v27 (ix2 l o)) + v30 (ix2 0 o) := by
  pointwise [k3_pay1, dot_S640x512_S512x1024_S640x1024_1_0_0_1_n_n, dot_S640x1024_S1024x1024_S640x1024_1_0_0_1_n_n,
    dot_S640x1024_S1024x128_S640x128_1_0_0_1_n_n]

/-- The parameter of point `k` of a line: `k` thirty-firsts. -/
def tk (k : Fin 32) : EReal := ((k.val : ℝ) : EReal) * ((1 / 31 : ℝ) : EReal)

theorem k2_pay3_apply (k : Fin 32) : k2_pay3 (F := Ideal) (ix3 0 k 0) = tk k := by
  pointwise [k2_pay3]
  have h : (BitVec.ofNat 32 k.val).toInt = (k.val : ℤ) := WordCmp.toInt_ofNat_of_lt (by omega)
  show ((((BitVec.ofNat 32 k.val).toInt : ℤ) : ℝ) : EReal) * _ = _
  rw [h]
  unfold tk
  congr 1

theorem k2_pay4_apply (v0 : S128x4.Idx → EReal) (l : Fin 128) (k : Fin 32) :
    k2_pay4 (F := Ideal) v0 (ix3 l k 0) = v0 (ix2 l 0) * tk k + v0 (ix2 l 2) * (1 - tk k) := by
  pointwise [k2_pay4, k2_pay2, k2_pay3_apply]

theorem k2_pay5_apply (v0 : S128x4.Idx → EReal) (v32 : S1x128.Idx → EReal) (v44 : S128x1024.Idx → EReal)
    (q : Fin 4096) (col : Fin 1024) :
    k2_pay5 (F := Ideal) v0 v32 v44 (ix2 q col)
      = ∑ y : Fin 128, hat (v32 (ix2 0 y)) (v0 (ix2 ⟨q.val / 32, by omega⟩ 1) * tk ⟨q.val % 32, by omega⟩
          + v0 (ix2 ⟨q.val / 32, by omega⟩ 3) * (1 - tk ⟨q.val % 32, by omega⟩)) * v44 (ix2 y col) := by
  pointwise [k2_pay5, k2_pay2, k2_pay3_apply, dot_S4096x128_S128x1024_S4096x1024_1_0_0_1_n_n]
  rfl

theorem k2_pay1_apply (v31 : S128x32x1.Idx → EReal) (v46 : S4096x1024.Idx → EReal) (v47 : S1x1024.Idx → EReal)
    (v60 : S1024x128.Idx → EReal) (q : Fin 4096) (o : Fin 128) :
    k2_pay1 (F := Ideal) v31 v46 v47 v60 (ix2 q o)
      = ∑ col : Fin 1024, v46 (ix2 q col) * hat (v47 (ix2 0 col)) (v31 (ix3 ⟨q.val / 32, by omega⟩ ⟨q.val % 32, by omega⟩ 0))
          * v60 (ix2 col o) := by
  pointwise [k2_pay1, dot_S4096x1024_S1024x128_S4096x128_1_0_0_1_n_n]
  rfl

end Cert.Lines

end
-- ==== Proof.HatMath.lean ====
/- Hat weights on the grid: a sum weighted by the hat about a point is the linear interpolation between the two grid points
   that hold it, and twice over it is the bilinear interpolation. -/
module

public import proofs.«01_k».proof.Proof.Payloads

@[expose] public section

set_option maxRecDepth 16384

noncomputable section

namespace Cert.Lines

open Idealize.ShloMosaic

/-- The maximum of two reals, taken among the extended reals, is their maximum. -/
theorem coe_max' (a b : ℝ) : max (a : EReal) (b : EReal) = ((max a b : ℝ) : EReal) :=
  ((EReal.coe_strictMono.monotone).map_max).symm

/-- The minimum of two reals, taken among the extended reals, is their minimum. -/
theorem coe_min' (a b : ℝ) : min (a : EReal) (b : EReal) = ((min a b : ℝ) : EReal) :=
  ((EReal.coe_strictMono.monotone).map_min).symm

/-- The hat weight of two reals. -/
theorem hat_coe (k p : ℝ) : hat (k : EReal) (p : EReal) = ((max (1 - max (k - p) (-(k - p))) 0 : ℝ) : EReal) := by
  unfold hat
  rw [← EReal.coe_sub, ← EReal.coe_neg, coe_max', ← EReal.coe_one, ← EReal.coe_sub, ← EReal.coe_zero, coe_max']

/-- At least one apart the hat weight is zero. -/
theorem hat_far {k p : ℝ} (h : p + 1 ≤ k ∨ k + 1 ≤ p) : hat (k : EReal) (p : EReal) = 0 := by
  rw [hat_coe, ← EReal.coe_zero]
  refine congrArg _ (max_eq_right ?_)
  rcases h with h | h
  · have := le_max_left (k - p) (-(k - p)); linarith
  · have := le_max_right (k - p) (-(k - p)); linarith

/-- At most one below the point the hat weight is one minus the distance. -/
theorem hat_below {k p : ℝ} (h0 : k ≤ p) (h1 : p ≤ k + 1) : hat (k : EReal) (p : EReal) = ((k + 1 - p : ℝ) : EReal) := by
  rw [hat_coe]
  refine congrArg _ ?_
  rw [max_eq_right (by linarith : k - p ≤ -(k - p)), max_eq_left (by linarith)]
  ring

/-- At most one above the point the hat weight is one minus the distance. -/
theorem hat_above {k p : ℝ} (h0 : p ≤ k) (h1 : k ≤ p + 1) : hat (k : EReal) (p : EReal) = ((p + 1 - k : ℝ) : EReal) := by
  rw [hat_coe]
  refine congrArg _ ?_
  rw [max_eq_left (by linarith : -(k - p) ≤ k - p), max_eq_left (by linarith)]
  ring

/-- A sum over the grid weighted by the hat about a point between `n` and `n + 1` keeps those two terms. -/
theorem sum_hat (p : ℝ) (n : ℕ) (hn : n + 1 < 128) (h0 : (n : ℝ) ≤ p) (h1 : p < (n : ℝ) + 1) (g : Fin 128 → EReal) :
    (∑ y : Fin 128, hat (((y.val : ℕ) : ℝ) : EReal) (p : EReal) * g y)
      = (((n : ℝ) + 1 - p : ℝ) : EReal) * g ⟨n, by omega⟩ + ((p - (n : ℝ) : ℝ) : EReal) * g ⟨n + 1, hn⟩ := by
  rw [Fintype.sum_eq_add (⟨n, by omega⟩ : Fin 128) ⟨n + 1, hn⟩ (by simp [Fin.ext_iff]) ?_]
  · rw [hat_below h0 h1.le, hat_above (k := ((n + 1 : ℕ) : ℝ)) (by push_cast; exact h1.le) (by push_cast; linarith)]
    rw [show p + 1 - ((n + 1 : ℕ) : ℝ) = p - (n : ℝ) by push_cast; ring]
  · rintro ⟨y, hy⟩ ⟨ha, hb⟩
    have ha' : y ≠ n := fun e => ha (Fin.ext e)
    have hb' : y ≠ n + 1 := fun e => hb (Fin.ext e)
    rw [hat_far, zero_mul]
    rcases Nat.lt_or_ge y n with h | h
    · right
      have : ((y + 1 : ℕ) : ℝ) ≤ (n : ℝ) := Nat.cast_le.2 h
      push_cast at this; show (y : ℝ) + 1 ≤ p; linarith
    · left
      have : ((n + 2 : ℕ) : ℝ) ≤ (y : ℝ) := Nat.cast_le.2 (by omega)
      push_cast at this; show p + 1 ≤ (y : ℝ); linarith

/-- Bilinear interpolation in the cell whose lower corner is `(X, Y)`: the four corners' values, each times the two
    opposite distances. -/
def bil (f : Fin 128 → Fin 128 → EReal) (px py : ℝ) (X Y : Fin 127) : EReal :=
  f Y.castSucc X.castSucc * (((Y.val : ℝ) + 1 - py : ℝ) : EReal) * (((X.val : ℝ) + 1 - px : ℝ) : EReal)
    + f Y.succ X.castSucc * ((py - (Y.val : ℝ) : ℝ) : EReal) * (((X.val : ℝ) + 1 - px : ℝ) : EReal)
    + f Y.castSucc X.succ * (((Y.val : ℝ) + 1 - py : ℝ) : EReal) * ((px - (X.val : ℝ) : ℝ) : EReal)
    + f Y.succ X.succ * ((py - (Y.val : ℝ) : ℝ) : EReal) * ((px - (X.val : ℝ) : ℝ) : EReal)

/-- Hat weights down and then across are the bilinear interpolation. -/
theorem sum_hat_hat (f : Fin 128 → Fin 128 → EReal) (px py : ℝ) (X Y : Fin 127)
    (hx0 : (X.val : ℝ) ≤ px) (hx1 : px < (X.val : ℝ) + 1) (hy0 : (Y.val : ℝ) ≤ py) (hy1 : py < (Y.val : ℝ) + 1) :
    (∑ x : Fin 128, (∑ y : Fin 128, hat (((y.val : ℕ) : ℝ) : EReal) (py : EReal) * f y x)
        * hat (((x.val : ℕ) : ℝ) : EReal) (px : EReal)) = bil f px py X Y := by
  have hX := X.isLt
  have hY := Y.isLt
  rw [Finset.sum_congr rfl (fun x _ => mul_comm _ _), sum_hat px X.val (by omega) hx0 hx1]
  rw [sum_hat py Y.val (by omega) hy0 hy1, sum_hat py Y.val (by omega) hy0 hy1]
  have nn : ∀ r : ℝ, 0 ≤ r → (0 : EReal) ≤ (r : EReal) := fun r h => EReal.coe_nonneg.2 h
  rw [EReal.left_distrib_of_nonneg_of_ne_top (nn _ (by linarith)) (EReal.coe_ne_top _),
    EReal.left_distrib_of_nonneg_of_ne_top (nn _ (by linarith)) (EReal.coe_ne_top _)]
  have e00 : (⟨Y.val, by omega⟩ : Fin 128) = Y.castSucc := rfl
  have e01 : (⟨Y.val + 1, by omega⟩ : Fin 128) = Y.succ := rfl
  have e10 : (⟨X.val, by omega⟩ : Fin 128) = X.castSucc := rfl
  have e11 : (⟨X.val + 1, by omega⟩ : Fin 128) = X.succ := rfl
  rw [e00, e01, e10, e11]
  unfold bil
  have sw : ∀ a b c : EReal, a * (b * c) = c * b * a := fun a b c => by rw [mul_comm b c, mul_comm]
  rw [sw, sw, sw, sw]
  simp only [add_assoc]

end Cert.Lines
-- ==== Proof.Spec.lean ====
/- What kernel and reference both compute: per line a row of interpolated features, and three layers with a head over it. -/
module

public import proofs.«01_k».proof.Proof.HatMath
public import Idealize.ShloMosaic.Lib.Pointwise.Sums

@[expose] public section

set_option maxRecDepth 16384

noncomputable section

namespace Cert.Lines

open Idealize.ShloMosaic

/-- A map at a point, by hat weights down and then across. -/
def hs (f : Fin 128 → Fin 128 → EReal) (px py : EReal) : EReal :=
  ∑ x : Fin 128, (∑ y : Fin 128, hat (((y.val : ℕ) : ℝ) : EReal) py * f y x) * hat (((x.val : ℕ) : ℝ) : EReal) px

/-- A one-by-one convolution's map: output channel `o` at pixel `(y, x)`. -/
def cmap {C : ℕ} (F : (⟨3, ![256, 128, 128]⟩ : Shape).Idx → EReal) (w : (⟨2, ![C, 256]⟩ : Shape).Idx → EReal) (o : Fin C)
    (y x : Fin 128) : EReal := ∑ k : Fin 256, F (ix3 k y x) * w (ix2 o k)

/-- The same with a bias per output channel. -/
def cmapb {C : ℕ} (F : (⟨3, ![256, 128, 128]⟩ : Shape).Idx → EReal) (w : (⟨2, ![C, 256]⟩ : Shape).Idx → EReal)
    (b : (⟨1, ![C]⟩ : Shape).Idx → EReal) (o : Fin C) (y x : Fin 128) : EReal := cmap F w o y x + b (ix1 o)

/-- A coordinate of the `k`-th of a line's thirty-two points: `p` and `q` are the columns of the two end points' coordinates. -/
def pt (l : (⟨2, ![5000, 4]⟩ : Shape).Idx → EReal) (n : Fin 5000) (k : Fin 32) (p q : Fin 4) : EReal :=
  l (ix2 n p) * tk k + l (ix2 n q) * (1 - tk k)

/-- A line's row of features: its two end points' values of the junction maps, then its thirty inner points' values of the
    first edge maps and of the second. -/
def row (F : (⟨3, ![256, 128, 128]⟩ : Shape).Idx → EReal) (l : (⟨2, ![5000, 4]⟩ : Shape).Idx → EReal)
    (w1 : (⟨2, ![128, 256]⟩ : Shape).Idx → EReal) (b1 : (⟨1, ![128]⟩ : Shape).Idx → EReal)
    (w3 w4 : (⟨2, ![4, 256]⟩ : Shape).Idx → EReal) (n : Fin 5000) (i : Fin 496) : EReal :=
  if h0 : i.val < 128 then hs (cmapb F w1 b1 ⟨i.val, h0⟩) (l (ix2 n 0)) (l (ix2 n 1))
  else if h1 : i.val < 256 then hs (cmapb F w1 b1 ⟨i.val - 128, by omega⟩) (l (ix2 n 2)) (l (ix2 n 3))
  else if h2 : i.val < 376 then
    hs (cmap F w3 ⟨(i.val - 256) % 4, by omega⟩) (pt l n ⟨1 + (i.val - 256) / 4, by omega⟩ 0 2)
      (pt l n ⟨1 + (i.val - 256) / 4, by omega⟩ 1 3)
  else hs (cmap F w4 ⟨(i.val - 376) % 4, by omega⟩) (pt l n ⟨1 + (i.val - 376) / 4, by omega⟩ 0 2)
      (pt l n ⟨1 + (i.val - 376) / 4, by omega⟩ 1 3)

/-- Three layers, the first two cut off below at zero, and a head of one output. -/
def net (X : Fin 496 → EReal) (w0 : (⟨2, ![1024, 496]⟩ : Shape).Idx → EReal) (b0 : (⟨1, ![1024]⟩ : Shape).Idx → EReal)
    (w1 : (⟨2, ![1024, 1024]⟩ : Shape).Idx → EReal) (b1 : (⟨1, ![1024]⟩ : Shape).Idx → EReal)
    (w2 : (⟨2, ![1024, 1024]⟩ : Shape).Idx → EReal) (b2 : (⟨1, ![1024]⟩ : Shape).Idx → EReal)
    (hw : (⟨2, ![1, 1024]⟩ : Shape).Idx → EReal) (hb : (⟨1, ![1]⟩ : Shape).Idx → EReal) : EReal :=
  (∑ l : Fin 1024, ((∑ k : Fin 1024, max ((∑ j : Fin 1024, max ((∑ i : Fin 496, X i * w0 (ix2 j i)) + b0 (ix1 j)) 0
      * w1 (ix2 k j)) + b1 (ix1 k)) 0 * w2 (ix2 l k)) + b2 (ix1 l)) * hw (ix2 0 l)) + hb (ix1 0)

end Cert.Lines
-- ==== Proof.RefScalars.lean ====
/- The reference's operations one at a time: the floor and the bounds of a coordinate, the grid words, the wrap of a negative
   index, and the read of a map at two index words. -/
module

public import proofs.«01_k».proof.Proof.Spec
public import proofs.«01_k».proof.Proof.Gen.ReferenceIdeal.Read
public import Idealize.ShloMosaic.Lib.Pointwise
public import Idealize.ShloMosaic.Lib.WordCmp

@[expose] public section

set_option maxRecDepth 16384

noncomputable section

namespace Cert.Lines

open Idealize.ShloMosaic

/-- A word as a number. -/
theorem sitofp_word (n : ℕ) (h : n < 2 ^ 31) :
    FloatOps.sitofp (F := Ideal) .f32 (BitVec.ofNat 32 n) = (((n : ℕ) : ℝ) : EReal) := by
  have e : (BitVec.ofNat 32 n).toInt = (n : ℤ) := WordCmp.toInt_ofNat_of_lt h
  show ((((BitVec.ofNat 32 n).toInt : ℤ) : ℝ) : EReal) = _
  rw [e]; rfl

/-- The floor of a coordinate inside the grid, bounded to the grid, is the cell it lies in. -/
theorem lower_cell (p : ℝ) (X : Fin 127) (h0 : (X.val : ℝ) ≤ p) (h1 : p < (X.val : ℝ) + 1) :
    min (FloatOps.sitofp (F := Ideal) .f32 127#32) (max (FloatOps.sitofp (F := Ideal) .f32 0#32) (Ideal.liftRound Int.floor (p : EReal)))
      = ((X.val : ℝ) : EReal) := by
  have hf : ⌊p⌋ = (X.val : ℤ) := Int.floor_eq_iff.2 ⟨by exact_mod_cast h0, by exact_mod_cast h1⟩
  have e1 : FloatOps.sitofp (F := Ideal) .f32 127#32 = (((127 : ℕ) : ℝ) : EReal) := sitofp_word 127 (by norm_num)
  have e0 : FloatOps.sitofp (F := Ideal) .f32 0#32 = (((0 : ℕ) : ℝ) : EReal) := sitofp_word 0 (by norm_num)
  have ef : Ideal.liftRound Int.floor (p : EReal) = ((X.val : ℝ) : EReal) := by
    show (((⌊p⌋ : ℤ) : ℝ) : EReal) = _
    rw [hf]; rfl
  rw [e0, e1, ef]
  have hX : (X.val : ℝ) ≤ 127 := by exact_mod_cast X.isLt.le
  rw [max_eq_right (EReal.coe_le_coe_iff.2 (by push_cast; exact Nat.cast_nonneg _)),
    min_eq_right (EReal.coe_le_coe_iff.2 (by push_cast; exact hX))]

/-- The cell's upper corner: one more, bounded to the grid. -/
theorem upper_cell (X : Fin 127) (x one : EReal) (hx : x = ((X.val : ℝ) : EReal)) (ho : one = 1) :
    min (FloatOps.sitofp (F := Ideal) .f32 127#32) (max (FloatOps.sitofp (F := Ideal) .f32 0#32) (x + one))
      = (((X.val : ℝ) + 1 : ℝ) : EReal) := by
  have e1 : FloatOps.sitofp (F := Ideal) .f32 127#32 = (((127 : ℕ) : ℝ) : EReal) := sitofp_word 127 (by norm_num)
  have e0 : FloatOps.sitofp (F := Ideal) .f32 0#32 = (((0 : ℕ) : ℝ) : EReal) := sitofp_word 0 (by norm_num)
  have es : x + one = (((X.val : ℝ) + 1 : ℝ) : EReal) := by rw [hx, ho]; push_cast; rfl
  rw [e0, e1, es]
  have hX : (X.val : ℝ) + 1 ≤ 127 := by exact_mod_cast X.isLt
  rw [max_eq_right (EReal.coe_le_coe_iff.2 (by push_cast; positivity)),
    min_eq_right (EReal.coe_le_coe_iff.2 (by push_cast; exact hX))]

/-- A number on the grid as a word. -/
theorem grid_word (x : EReal) (n : ℕ) (hn : n < 128) (hx : x = (((n : ℕ) : ℝ) : EReal)) :
    Ideal.fptosi 32 x = BitVec.ofNat 32 n := by
  rw [hx]
  show BitVec.ofInt 32 (max _ (min _ (if (0 : ℝ) ≤ (n : ℝ) then ⌊(n : ℝ)⌋ else ⌈(n : ℝ)⌉))) = _
  rw [if_pos (Nat.cast_nonneg n), Int.floor_natCast]
  have : max (-((2 ^ (32 - 1) : ℕ) : ℤ)) (min (((2 ^ (32 - 1) : ℕ) : ℤ) - 1) (n : ℤ)) = (n : ℤ) := by
    norm_num
    omega
  rw [this]
  exact BitVec.ofInt_natCast 32 n

/-- An index that is not negative is not wrapped. -/
theorem wrap_word (n : ℕ) (hn : n < 128) (w z k : BitVec 32) (hw : w = BitVec.ofNat 32 n) (hz : z = 0#32) :
    Scalar.select (IntOp.cmpi CmpIPredicate.slt w z) (IntOp.addi w k) w = BitVec.ofNat 32 n := by
  have : IntOp.cmpi CmpIPredicate.slt w z = 0#1 := by
    rw [hw, hz]
    have e : (BitVec.ofNat 32 n).toInt = (n : ℤ) := WordCmp.toInt_ofNat_of_lt (by omega)
    show BitVec.ofBool ((BitVec.ofNat 32 n).slt 0#32) = 0#1
    rw [BitVec.slt, e]
    have h0 : ¬ ((n : ℤ) < (0#32 : BitVec 32).toInt) := by simp
    rw [decide_eq_false h0]; rfl
  rw [this, hw]; rfl

/-- A read of maps at two index words per position: where position `q`'s words are grid coordinates `Y` and `X`, the entry of
    map `ch` is the map there. -/
theorem gather_map {C P : ℕ} (d : GatherDims (⟨3, ![C, 128, 128]⟩ : Shape) (⟨2, ![P, 2]⟩ : Shape) (⟨2, ![C, P]⟩ : Shape))
    (hoff : d.offsetDims = [0]) (hcoll : d.collapsedSliceDims = [1, 2]) (hob : d.operandBatchingDims = [])
    (hsim : d.startIndexMap = [1, 2]) (hivd : d.indexVectorDim = 1)
    (x : (⟨3, ![C, 128, 128]⟩ : Shape).Idx → EReal) (idx : IVec (⟨2, ![P, 2]⟩ : Shape) 32) (ch : Fin C) (q : Fin P) (Y X : Fin 128)
    (hY : idx (ix2 q (0 : Fin 2)) = BitVec.ofNat 32 Y.val) (hX : idx (ix2 q (1 : Fin 2)) = BitVec.ofNat 32 X.val) :
    Host.gather d x idx (ix2 ch q) = x (ix3 ch Y X) := by
  unfold Host.gather
  refine congrArg x (funext fun a => Fin.ext ?_)
  have noBatch : ∀ a', a' ∉ d.operandBatchingDims := fun a' => by rw [hob]; exact List.not_mem_nil
  have batch1 : ∀ k ∈ d.batchDims, k = (1 : Fin 2) := fun k hk => by
    have hk' : k ∉ d.offsetDims := of_decide_eq_true (List.mem_filter.1 hk).2
    rw [hoff] at hk'
    have h0 : k.val ≠ 0 := fun e => hk' (List.mem_singleton.2 (Fin.ext e))
    have h2 : k.val < 2 := k.isLt
    exact Fin.ext (by show k.val = 1; omega)
  have off0 : ∀ k ∈ d.offsetDims, k = (0 : Fin 2) := fun k hk => by rw [hoff] at hk; exact List.mem_singleton.1 hk
  have v0 : ∀ k : Fin 2, k = 0 → (ix2 ch q k).val = ch.val := fun k h => by subst h; rfl
  have v1 : ∀ k : Fin 2, k = 1 → (ix2 ch q k).val = q.val := fun k h => by subst h; rfl
  have site : ∀ (j : Fin 2) (a : Fin 3) (ha : a ∈ d.startIndexMap) (hi : d.startIndexMap.idxOf a = j.val),
      d.siIdx (ix2 ch q) ⟨d.startIndexMap.idxOf a, List.idxOf_lt_length_iff.2 ha⟩ = ix2 q j := fun j a ha hi => by
    funext b
    apply Fin.ext
    match b with
    | ⟨0, _⟩ =>
      unfold GatherDims.siIdx
      rw [dif_neg (by rw [hivd]; exact Nat.zero_ne_one)]
      unfold GatherDims.siCoord
      simp only [Fin.val_cast]
      exact v1 _ (batch1 _ (List.getElem_mem _))
    | ⟨1, _⟩ =>
      unfold GatherDims.siIdx
      rw [dif_pos (by rw [hivd])]
      exact hi
  have clamp : ∀ (a : Fin 3) (j : Fin 2) (Z : Fin 128) (ha : a ∈ d.startIndexMap) (hi : d.startIndexMap.idxOf a = j.val)
      (hc : a ∈ d.collapsedSliceDims) (hs : (⟨3, ![C, 128, 128]⟩ : Shape).size a = 128) (hz : idx (ix2 q j) = BitVec.ofNat 32 Z.val),
      d.start (ix2 ch q) idx a + d.batchCoord (ix2 ch q) a + d.offCoord (ix2 ch q) a = Z.val := fun a j Z ha hi hc hs hz => by
    have hk : a ∉ d.sKept := fun h => ((d.mem_sKept a).1 h).1 hc
    rw [d.batchCoord_eq_zero _ _ (noBatch a), d.offCoord_eq_zero _ _ hk]
    unfold GatherDims.start
    rw [dif_pos ha, site j a ha hi, hz, d.slice_collapsed a hc, hs, WordCmp.toInt_ofNat_of_lt (by have := Z.isLt; omega)]
    have := Z.isLt
    omega
  have m0 : (0 : Fin 3) ∉ ([1, 2] : List (Fin 3)) := by decide
  have m1 : (1 : Fin 3) ∈ ([1, 2] : List (Fin 3)) := by decide
  have m2 : (2 : Fin 3) ∈ ([1, 2] : List (Fin 3)) := by decide
  have i1 : ([1, 2] : List (Fin 3)).idxOf 1 = 0 := by decide
  have i2 : ([1, 2] : List (Fin 3)).idxOf 2 = 1 := by decide
  match a with
  | ⟨0, _⟩ =>
    have hk : (0 : Fin 3) ∈ d.sKept := (d.mem_sKept 0).2 ⟨by rw [hcoll]; exact m0, noBatch 0⟩
    have hm : (0 : Fin 3) ∉ d.startIndexMap := by rw [hsim]; exact m0
    show d.start (ix2 ch q) idx 0 + d.batchCoord (ix2 ch q) 0 + d.offCoord (ix2 ch q) 0 = ch.val
    rw [d.batchCoord_eq_zero _ _ (noBatch 0)]
    unfold GatherDims.start GatherDims.offCoord
    rw [dif_neg hm, dif_pos hk]
    simp only [Nat.zero_add]
    exact v0 _ (off0 _ (List.getElem_mem _))
  | ⟨1, _⟩ => exact clamp 1 0 Y (by rw [hsim]; exact m1) (by rw [hsim]; exact i1) (by rw [hcoll]; exact m1) rfl hY
  | ⟨2, _⟩ => exact clamp 2 1 X (by rw [hsim]; exact m2) (by rw [hsim]; exact i2) (by rw [hcoll]; exact m2) rfl hX

end Cert.Lines
-- ==== Proof.RefE1.lean ====
/- The reference's bilinear sampling, the first edge maps. -/
module

public import proofs.«01_k».proof.Proof.RefScalars

@[expose] public section

set_option maxRecDepth 16384

noncomputable section

namespace Cert.Lines

open Idealize.ShloMosaic Cert.ReferenceIdeal Cert.ReferenceIdeal.Read

/-- The cell of a point, across: the first edge maps. -/
theorem E1_px0 (x1 : S5000x4.Idx → EReal) (q : Fin 150000) (p : ℝ) (X : Fin 127) (h : val_main_v32 (F := Ideal) x1 (ix1 q) = (p : EReal))
    (h0 : (X.val : ℝ) ≤ p) (h1 : p < (X.val : ℝ) + 1) : val_main_v36 (F := Ideal) x1 (ix1 q) = ((X.val : ℝ) : EReal) := by
  pointwise [val_main_v36, val_main_call1_v4, val_main_call1_v3, val_main_c_2, val_main_call1_v2, val_main_call1_v1,
      val_main_call1_v0, val_main_c, val_main_v35]
  rw [h]
  exact lower_cell p X h0 h1

/-- The cell of a point, down: the first edge maps. -/
theorem E1_py0 (x1 : S5000x4.Idx → EReal) (q : Fin 150000) (p : ℝ) (X : Fin 127) (h : val_main_v34 (F := Ideal) x1 (ix1 q) = (p : EReal))
    (h0 : (X.val : ℝ) ≤ p) (h1 : p < (X.val : ℝ) + 1) : val_main_v38 (F := Ideal) x1 (ix1 q) = ((X.val : ℝ) : EReal) := by
  pointwise [val_main_v38, val_main_call2_v4, val_main_call2_v3, val_main_c_4, val_main_call2_v2, val_main_call2_v1,
      val_main_call2_v0, val_main_c_3, val_main_v37]
  rw [h]
  exact lower_cell p X h0 h1

/-- The cell's upper corner, across: the first edge maps. -/
theorem E1_px1 (x1 : S5000x4.Idx → EReal) (q : Fin 150000) (p : ℝ) (X : Fin 127) (h : val_main_v32 (F := Ideal) x1 (ix1 q) = (p : EReal))
    (h0 : (X.val : ℝ) ≤ p) (h1 : p < (X.val : ℝ) + 1) : val_main_v41 (F := Ideal) x1 (ix1 q) = (((X.val : ℝ) + 1 : ℝ) : EReal) := by
  pointwise [val_main_v41, val_main_call3_v4, val_main_call3_v3, val_main_c_7, val_main_call3_v2, val_main_call3_v1,
      val_main_call3_v0, val_main_c_6, val_main_v40, val_main_v39, val_main_cst_5]
  exact upper_cell X _ _ (E1_px0 x1 q p X h h0 h1) rfl

/-- The cell's upper corner, down: the first edge maps. -/
theorem E1_py1 (x1 : S5000x4.Idx → EReal) (q : Fin 150000) (p : ℝ) (X : Fin 127) (h : val_main_v34 (F := Ideal) x1 (ix1 q) = (p : EReal))
    (h0 : (X.val : ℝ) ≤ p) (h1 : p < (X.val : ℝ) + 1) : val_main_v44 (F := Ideal) x1 (ix1 q) = (((X.val : ℝ) + 1 : ℝ) : EReal) := by
  pointwise [val_main_v44, val_main_call4_v4, val_main_call4_v3, val_main_c_10, val_main_call4_v2, val_main_call4_v1,
      val_main_call4_v0, val_main_c_9, val_main_v43, val_main_v42, val_main_cst_8]
  exact upper_cell X _ _ (E1_py0 x1 q p X h h0 h1) rfl

/-- The map read at corner 1 of the cell: the first edge maps. -/
theorem E1_g1 (x0 : S256x128x128.Idx → EReal) (x1 : S5000x4.Idx → EReal) (x4 : S4x256.Idx → EReal) (x5 : S4.Idx → EReal) (ch : Fin 4) (q : Fin 150000) (px py : ℝ) (X Y : Fin 127)
    (hx : val_main_v32 (F := Ideal) x1 (ix1 q) = (px : EReal)) (hy : val_main_v34 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v62 (F := Ideal) x0 x1 x4 x5 (ix2 ch q) = val_main_v7 (F := Ideal) x0 x4 x5 (ix3 ch Y.castSucc X.castSucc) := by
  have hY := Y.isLt
  have hX := X.isLt
  refine gather_map _ rfl rfl rfl rfl rfl _ _ ch q Y.castSucc X.castSucc ?_ ?_
  · pointwise [val_main_v61, val_main_v59, val_main_v53, val_main_v50, val_main_v46, val_main_v49, val_main_c_11, val_main_v52,
      val_main_v51, val_main_c_12, val_main_v60, val_main_v58, val_main_v55, val_main_v45, val_main_v54, val_main_c_13,
      val_main_v57, val_main_v56, val_main_c_14]
    exact wrap_word Y.val (by omega) _ _ _ (grid_word _ Y.val (by omega) (E1_py0 x1 q py Y hy hy0 hy1)) rfl
  · pointwise [val_main_v61, val_main_v59, val_main_v53, val_main_v50, val_main_v46, val_main_v49, val_main_c_11, val_main_v52,
      val_main_v51, val_main_c_12, val_main_v60, val_main_v58, val_main_v55, val_main_v45, val_main_v54, val_main_c_13,
      val_main_v57, val_main_v56, val_main_c_14]
    exact wrap_word X.val (by omega) _ _ _ (grid_word _ X.val (by omega) (E1_px0 x1 q px X hx hx0 hx1)) rfl

/-- The map read at corner 2 of the cell: the first edge maps. -/
theorem E1_g2 (x0 : S256x128x128.Idx → EReal) (x1 : S5000x4.Idx → EReal) (x4 : S4x256.Idx → EReal) (x5 : S4.Idx → EReal) (ch : Fin 4) (q : Fin 150000) (px py : ℝ) (X Y : Fin 127)
    (hx : val_main_v32 (F := Ideal) x1 (ix1 q) = (px : EReal)) (hy : val_main_v34 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v84 (F := Ideal) x0 x1 x4 x5 (ix2 ch q) = val_main_v7 (F := Ideal) x0 x4 x5 (ix3 ch Y.succ X.castSucc) := by
  have hY := Y.isLt
  have hX := X.isLt
  refine gather_map _ rfl rfl rfl rfl rfl _ _ ch q Y.succ X.castSucc ?_ ?_
  · pointwise [val_main_v83, val_main_v81, val_main_v75, val_main_v72, val_main_v48, val_main_v71, val_main_c_15, val_main_v74,
      val_main_v73, val_main_c_16, val_main_v82, val_main_v80, val_main_v77, val_main_v45, val_main_v76, val_main_c_17,
      val_main_v79, val_main_v78, val_main_c_18]
    exact wrap_word (Y.val + 1) (by omega) _ _ _ (grid_word _ (Y.val + 1) (by omega) ((E1_py1 x1 q py Y hy hy0 hy1).trans (by push_cast; rfl))) rfl
  · pointwise [val_main_v83, val_main_v81, val_main_v75, val_main_v72, val_main_v48, val_main_v71, val_main_c_15, val_main_v74,
      val_main_v73, val_main_c_16, val_main_v82, val_main_v80, val_main_v77, val_main_v45, val_main_v76, val_main_c_17,
      val_main_v79, val_main_v78, val_main_c_18]
    exact wrap_word X.val (by omega) _ _ _ (grid_word _ X.val (by omega) (E1_px0 x1 q px X hx hx0 hx1)) rfl

/-- The map read at corner 3 of the cell: the first edge maps. -/
theorem E1_g3 (x0 : S256x128x128.Idx → EReal) (x1 : S5000x4.Idx → EReal) (x4 : S4x256.Idx → EReal) (x5 : S4.Idx → EReal) (ch : Fin 4) (q : Fin 150000) (px py : ℝ) (X Y : Fin 127)
    (hx : val_main_v32 (F := Ideal) x1 (ix1 q) = (px : EReal)) (hy : val_main_v34 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v107 (F := Ideal) x0 x1 x4 x5 (ix2 ch q) = val_main_v7 (F := Ideal) x0 x4 x5 (ix3 ch Y.castSucc X.succ) := by
  have hY := Y.isLt
  have hX := X.isLt
  refine gather_map _ rfl rfl rfl rfl rfl _ _ ch q Y.castSucc X.succ ?_ ?_
  · pointwise [val_main_v106, val_main_v104, val_main_v98, val_main_v95, val_main_v46, val_main_v94, val_main_c_19, val_main_v97,
      val_main_v96, val_main_c_20, val_main_v105, val_main_v103, val_main_v100, val_main_v47, val_main_v99, val_main_c_21,
      val_main_v102, val_main_v101, val_main_c_22]
    exact wrap_word Y.val (by omega) _ _ _ (grid_word _ Y.val (by omega) (E1_py0 x1 q py Y hy hy0 hy1)) rfl
  · pointwise [val_main_v106, val_main_v104, val_main_v98, val_main_v95, val_main_v46, val_main_v94, val_main_c_19, val_main_v97,
      val_main_v96, val_main_c_20, val_main_v105, val_main_v103, val_main_v100, val_main_v47, val_main_v99, val_main_c_21,
      val_main_v102, val_main_v101, val_main_c_22]
    exact wrap_word (X.val + 1) (by omega) _ _ _ (grid_word _ (X.val + 1) (by omega) ((E1_px1 x1 q px X hx hx0 hx1).trans (by push_cast; rfl))) rfl

/-- The map read at corner 4 of the cell: the first edge maps. -/
theorem E1_g4 (x0 : S256x128x128.Idx → EReal) (x1 : S5000x4.Idx → EReal) (x4 : S4x256.Idx → EReal) (x5 : S4.Idx → EReal) (ch : Fin 4) (q : Fin 150000) (px py : ℝ) (X Y : Fin 127)
    (hx : val_main_v32 (F := Ideal) x1 (ix1 q) = (px : EReal)) (hy : val_main_v34 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v130 (F := Ideal) x0 x1 x4 x5 (ix2 ch q) = val_main_v7 (F := Ideal) x0 x4 x5 (ix3 ch Y.succ X.succ) := by
  have hY := Y.isLt
  have hX := X.isLt
  refine gather_map _ rfl rfl rfl rfl rfl _ _ ch q Y.succ X.succ ?_ ?_
  · pointwise [val_main_v129, val_main_v127, val_main_v121, val_main_v118, val_main_v48, val_main_v117, val_main_c_23, val_main_v120,
      val_main_v119, val_main_c_24, val_main_v128, val_main_v126, val_main_v123, val_main_v47, val_main_v122, val_main_c_25,
      val_main_v125, val_main_v124, val_main_c_26]
    exact wrap_word (Y.val + 1) (by omega) _ _ _ (grid_word _ (Y.val + 1) (by omega) ((E1_py1 x1 q py Y hy hy0 hy1).trans (by push_cast; rfl))) rfl
  · pointwise [val_main_v129, val_main_v127, val_main_v121, val_main_v118, val_main_v48, val_main_v117, val_main_c_23, val_main_v120,
      val_main_v119, val_main_c_24, val_main_v128, val_main_v126, val_main_v123, val_main_v47, val_main_v122, val_main_c_25,
      val_main_v125, val_main_v124, val_main_c_26]
    exact wrap_word (X.val + 1) (by omega) _ _ _ (grid_word _ (X.val + 1) (by omega) ((E1_px1 x1 q px X hx hx0 hx1).trans (by push_cast; rfl))) rfl

/-- The sampled value is the bilinear interpolation in the point's cell: the first edge maps. -/
theorem E1_bil (x0 : S256x128x128.Idx → EReal) (x1 : S5000x4.Idx → EReal) (x4 : S4x256.Idx → EReal) (x5 : S4.Idx → EReal) (ch : Fin 4) (q : Fin 150000) (px py : ℝ) (X Y : Fin 127)
    (hx : val_main_v32 (F := Ideal) x1 (ix1 q) = (px : EReal)) (hy : val_main_v34 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v139 (F := Ideal) x0 x1 x4 x5 (ix2 ch q) = bil (fun y x => val_main_v7 (F := Ideal) x0 x4 x5 (ix3 ch y x)) px py X Y := by
  pointwise [val_main_v139, val_main_v116, val_main_v93, val_main_v70, val_main_v66, val_main_v65, val_main_v64, val_main_v63,
      val_main_v69, val_main_v68, val_main_v67, val_main_v92, val_main_v88, val_main_v87, val_main_v86, val_main_v85,
      val_main_v91, val_main_v90, val_main_v89, val_main_v115, val_main_v111, val_main_v110, val_main_v109, val_main_v108,
      val_main_v114, val_main_v113, val_main_v112, val_main_v138, val_main_v134, val_main_v133, val_main_v132,
      val_main_v131, val_main_v137, val_main_v136, val_main_v135]
  rw [E1_g1 x0 x1 x4 x5 ch q px py X Y hx hy hx0 hx1 hy0 hy1, E1_g2 x0 x1 x4 x5 ch q px py X Y hx hy hx0 hx1 hy0 hy1,
    E1_g3 x0 x1 x4 x5 ch q px py X Y hx hy hx0 hx1 hy0 hy1, E1_g4 x0 x1 x4 x5 ch q px py X Y hx hy hx0 hx1 hy0 hy1, E1_px0 x1 q px X hx hx0 hx1, E1_py0 x1 q py Y hy hy0 hy1,
    E1_px1 x1 q px X hx hx0 hx1, E1_py1 x1 q py Y hy hy0 hy1, hx, hy]
  simp only [← EReal.coe_sub]
  rfl

end Cert.Lines
-- ==== Proof.RefE2.lean ====
/- The reference's bilinear sampling, the second edge maps. -/
module

public import proofs.«01_k».proof.Proof.RefScalars

@[expose] public section

set_option maxRecDepth 16384

noncomputable section

namespace Cert.Lines

open Idealize.ShloMosaic Cert.ReferenceIdeal Cert.ReferenceIdeal.Read

/-- The cell of a point, across: the second edge maps. -/
theorem E2_px0 (x1 : S5000x4.Idx → EReal) (q : Fin 150000) (p : ℝ) (X : Fin 127) (h : val_main_v144 (F := Ideal) x1 (ix1 q) = (p : EReal))
    (h0 : (X.val : ℝ) ≤ p) (h1 : p < (X.val : ℝ) + 1) : val_main_v148 (F := Ideal) x1 (ix1 q) = ((X.val : ℝ) : EReal) := by
  pointwise [val_main_v148, val_main_call5_v4, val_main_call5_v3, val_main_c_28, val_main_call5_v2, val_main_call5_v1,
      val_main_call5_v0, val_main_c_27, val_main_v147]
  rw [h]
  exact lower_cell p X h0 h1

/-- The cell of a point, down: the second edge maps. -/
theorem E2_py0 (x1 : S5000x4.Idx → EReal) (q : Fin 150000) (p : ℝ) (X : Fin 127) (h : val_main_v146 (F := Ideal) x1 (ix1 q) = (p : EReal))
    (h0 : (X.val : ℝ) ≤ p) (h1 : p < (X.val : ℝ) + 1) : val_main_v150 (F := Ideal) x1 (ix1 q) = ((X.val : ℝ) : EReal) := by
  pointwise [val_main_v150, val_main_call6_v4, val_main_call6_v3, val_main_c_30, val_main_call6_v2, val_main_call6_v1,
      val_main_call6_v0, val_main_c_29, val_main_v149]
  rw [h]
  exact lower_cell p X h0 h1

/-- The cell's upper corner, across: the second edge maps. -/
theorem E2_px1 (x1 : S5000x4.Idx → EReal) (q : Fin 150000) (p : ℝ) (X : Fin 127) (h : val_main_v144 (F := Ideal) x1 (ix1 q) = (p : EReal))
    (h0 : (X.val : ℝ) ≤ p) (h1 : p < (X.val : ℝ) + 1) : val_main_v153 (F := Ideal) x1 (ix1 q) = (((X.val : ℝ) + 1 : ℝ) : EReal) := by
  pointwise [val_main_v153, val_main_call7_v4, val_main_call7_v3, val_main_c_33, val_main_call7_v2, val_main_call7_v1,
      val_main_call7_v0, val_main_c_32, val_main_v152, val_main_v151, val_main_cst_31]
  exact upper_cell X _ _ (E2_px0 x1 q p X h h0 h1) rfl

/-- The cell's upper corner, down: the second edge maps. -/
theorem E2_py1 (x1 : S5000x4.Idx → EReal) (q : Fin 150000) (p : ℝ) (X : Fin 127) (h : val_main_v146 (F := Ideal) x1 (ix1 q) = (p : EReal))
    (h0 : (X.val : ℝ) ≤ p) (h1 : p < (X.val : ℝ) + 1) : val_main_v156 (F := Ideal) x1 (ix1 q) = (((X.val : ℝ) + 1 : ℝ) : EReal) := by
  pointwise [val_main_v156, val_main_call8_v4, val_main_call8_v3, val_main_c_36, val_main_call8_v2, val_main_call8_v1,
      val_main_call8_v0, val_main_c_35, val_main_v155, val_main_v154, val_main_cst_34]
  exact upper_cell X _ _ (E2_py0 x1 q p X h h0 h1) rfl

/-- The map read at corner 1 of the cell: the second edge maps. -/
theorem E2_g1 (x0 : S256x128x128.Idx → EReal) (x1 : S5000x4.Idx → EReal) (x6 : S4x256.Idx → EReal) (x7 : S4.Idx → EReal) (ch : Fin 4) (q : Fin 150000) (px py : ℝ) (X Y : Fin 127)
    (hx : val_main_v144 (F := Ideal) x1 (ix1 q) = (px : EReal)) (hy : val_main_v146 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v174 (F := Ideal) x0 x1 x6 x7 (ix2 ch q) = val_main_v11 (F := Ideal) x0 x6 x7 (ix3 ch Y.castSucc X.castSucc) := by
  have hY := Y.isLt
  have hX := X.isLt
  refine gather_map _ rfl rfl rfl rfl rfl _ _ ch q Y.castSucc X.castSucc ?_ ?_
  · pointwise [val_main_v173, val_main_v171, val_main_v165, val_main_v162, val_main_v158, val_main_v161, val_main_c_37,
      val_main_v164, val_main_v163, val_main_c_38, val_main_v172, val_main_v170, val_main_v167, val_main_v157,
      val_main_v166, val_main_c_39, val_main_v169, val_main_v168, val_main_c_40]
    exact wrap_word Y.val (by omega) _ _ _ (grid_word _ Y.val (by omega) (E2_py0 x1 q py Y hy hy0 hy1)) rfl
  · pointwise [val_main_v173, val_main_v171, val_main_v165, val_main_v162, val_main_v158, val_main_v161, val_main_c_37,
      val_main_v164, val_main_v163, val_main_c_38, val_main_v172, val_main_v170, val_main_v167, val_main_v157,
      val_main_v166, val_main_c_39, val_main_v169, val_main_v168, val_main_c_40]
    exact wrap_word X.val (by omega) _ _ _ (grid_word _ X.val (by omega) (E2_px0 x1 q px X hx hx0 hx1)) rfl

/-- The map read at corner 2 of the cell: the second edge maps. -/
theorem E2_g2 (x0 : S256x128x128.Idx → EReal) (x1 : S5000x4.Idx → EReal) (x6 : S4x256.Idx → EReal) (x7 : S4.Idx → EReal) (ch : Fin 4) (q : Fin 150000) (px py : ℝ) (X Y : Fin 127)
    (hx : val_main_v144 (F := Ideal) x1 (ix1 q) = (px : EReal)) (hy : val_main_v146 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v196 (F := Ideal) x0 x1 x6 x7 (ix2 ch q) = val_main_v11 (F := Ideal) x0 x6 x7 (ix3 ch Y.succ X.castSucc) := by
  have hY := Y.isLt
  have hX := X.isLt
  refine gather_map _ rfl rfl rfl rfl rfl _ _ ch q Y.succ X.castSucc ?_ ?_
  · pointwise [val_main_v195, val_main_v193, val_main_v187, val_main_v184, val_main_v160, val_main_v183, val_main_c_41,
      val_main_v186, val_main_v185, val_main_c_42, val_main_v194, val_main_v192, val_main_v189, val_main_v157,
      val_main_v188, val_main_c_43, val_main_v191, val_main_v190, val_main_c_44]
    exact wrap_word (Y.val + 1) (by omega) _ _ _ (grid_word _ (Y.val + 1) (by omega) ((E2_py1 x1 q py Y hy hy0 hy1).trans (by push_cast; rfl))) rfl
  · pointwise [val_main_v195, val_main_v193, val_main_v187, val_main_v184, val_main_v160, val_main_v183, val_main_c_41,
      val_main_v186, val_main_v185, val_main_c_42, val_main_v194, val_main_v192, val_main_v189, val_main_v157,
      val_main_v188, val_main_c_43, val_main_v191, val_main_v190, val_main_c_44]
    exact wrap_word X.val (by omega) _ _ _ (grid_word _ X.val (by omega) (E2_px0 x1 q px X hx hx0 hx1)) rfl

/-- The map read at corner 3 of the cell: the second edge maps. -/
theorem E2_g3 (x0 : S256x128x128.Idx → EReal) (x1 : S5000x4.Idx → EReal) (x6 : S4x256.Idx → EReal) (x7 : S4.Idx → EReal) (ch : Fin 4) (q : Fin 150000) (px py : ℝ) (X Y : Fin 127)
    (hx : val_main_v144 (F := Ideal) x1 (ix1 q) = (px : EReal)) (hy : val_main_v146 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v219 (F := Ideal) x0 x1 x6 x7 (ix2 ch q) = val_main_v11 (F := Ideal) x0 x6 x7 (ix3 ch Y.castSucc X.succ) := by
  have hY := Y.isLt
  have hX := X.isLt
  refine gather_map _ rfl rfl rfl rfl rfl _ _ ch q Y.castSucc X.succ ?_ ?_
  · pointwise [val_main_v218, val_main_v216, val_main_v210, val_main_v207, val_main_v158, val_main_v206, val_main_c_45,
      val_main_v209, val_main_v208, val_main_c_46, val_main_v217, val_main_v215, val_main_v212, val_main_v159,
      val_main_v211, val_main_c_47, val_main_v214, val_main_v213, val_main_c_48]
    exact wrap_word Y.val (by omega) _ _ _ (grid_word _ Y.val (by omega) (E2_py0 x1 q py Y hy hy0 hy1)) rfl
  · pointwise [val_main_v218, val_main_v216, val_main_v210, val_main_v207, val_main_v158, val_main_v206, val_main_c_45,
      val_main_v209, val_main_v208, val_main_c_46, val_main_v217, val_main_v215, val_main_v212, val_main_v159,
      val_main_v211, val_main_c_47, val_main_v214, val_main_v213, val_main_c_48]
    exact wrap_word (X.val + 1) (by omega) _ _ _ (grid_word _ (X.val + 1) (by omega) ((E2_px1 x1 q px X hx hx0 hx1).trans (by push_cast; rfl))) rfl

/-- The map read at corner 4 of the cell: the second edge maps. -/
theorem E2_g4 (x0 : S256x128x128.Idx → EReal) (x1 : S5000x4.Idx → EReal) (x6 : S4x256.Idx → EReal) (x7 : S4.Idx → EReal) (ch : Fin 4) (q : Fin 150000) (px py : ℝ) (X Y : Fin 127)
    (hx : val_main_v144 (F := Ideal) x1 (ix1 q) = (px : EReal)) (hy : val_main_v146 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v242 (F := Ideal) x0 x1 x6 x7 (ix2 ch q) = val_main_v11 (F := Ideal) x0 x6 x7 (ix3 ch Y.succ X.succ) := by
  have hY := Y.isLt
  have hX := X.isLt
  refine gather_map _ rfl rfl rfl rfl rfl _ _ ch q Y.succ X.succ ?_ ?_
  · pointwise [val_main_v241, val_main_v239, val_main_v233, val_main_v230, val_main_v160, val_main_v229, val_main_c_49,
      val_main_v232, val_main_v231, val_main_c_50, val_main_v240, val_main_v238, val_main_v235, val_main_v159,
      val_main_v234, val_main_c_51, val_main_v237, val_main_v236, val_main_c_52]
    exact wrap_word (Y.val + 1) (by omega) _ _ _ (grid_word _ (Y.val + 1) (by omega) ((E2_py1 x1 q py Y hy hy0 hy1).trans (by push_cast; rfl))) rfl
  · pointwise [val_main_v241, val_main_v239, val_main_v233, val_main_v230, val_main_v160, val_main_v229, val_main_c_49,
      val_main_v232, val_main_v231, val_main_c_50, val_main_v240, val_main_v238, val_main_v235, val_main_v159,
      val_main_v234, val_main_c_51, val_main_v237, val_main_v236, val_main_c_52]
    exact wrap_word (X.val + 1) (by omega) _ _ _ (grid_word _ (X.val + 1) (by omega) ((E2_px1 x1 q px X hx hx0 hx1).trans (by push_cast; rfl))) rfl

/-- The sampled value is the bilinear interpolation in the point's cell: the second edge maps. -/
theorem E2_bil (x0 : S256x128x128.Idx → EReal) (x1 : S5000x4.Idx → EReal) (x6 : S4x256.Idx → EReal) (x7 : S4.Idx → EReal) (ch : Fin 4) (q : Fin 150000) (px py : ℝ) (X Y : Fin 127)
    (hx : val_main_v144 (F := Ideal) x1 (ix1 q) = (px : EReal)) (hy : val_main_v146 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v251 (F := Ideal) x0 x1 x6 x7 (ix2 ch q) = bil (fun y x => val_main_v11 (F := Ideal) x0 x6 x7 (ix3 ch y x)) px py X Y := by
  pointwise [val_main_v251, val_main_v228, val_main_v205, val_main_v182, val_main_v178, val_main_v177, val_main_v176,
      val_main_v175, val_main_v181, val_main_v180, val_main_v179, val_main_v204, val_main_v200, val_main_v199,
      val_main_v198, val_main_v197, val_main_v203, val_main_v202, val_main_v201, val_main_v227, val_main_v223,
      val_main_v222, val_main_v221, val_main_v220, val_main_v226, val_main_v225, val_main_v224, val_main_v250,
      val_main_v246, val_main_v245, val_main_v244, val_main_v243, val_main_v249, val_main_v248, val_main_v247]
  rw [E2_g1 x0 x1 x6 x7 ch q px py X Y hx hy hx0 hx1 hy0 hy1, E2_g2 x0 x1 x6 x7 ch q px py X Y hx hy hx0 hx1 hy0 hy1,
    E2_g3 x0 x1 x6 x7 ch q px py X Y hx hy hx0 hx1 hy0 hy1, E2_g4 x0 x1 x6 x7 ch q px py X Y hx hy hx0 hx1 hy0 hy1, E2_px0 x1 q px X hx hx0 hx1, E2_py0 x1 q py Y hy hy0 hy1,
    E2_px1 x1 q px X hx hx0 hx1, E2_py1 x1 q py Y hy hy0 hy1, hx, hy]
  simp only [← EReal.coe_sub]
  rfl

end Cert.Lines
-- ==== Proof.RefJ1.lean ====
/- The reference's bilinear sampling, the junction maps at the first end points. -/
module

public import proofs.«01_k».proof.Proof.RefScalars

@[expose] public section

set_option maxRecDepth 16384

noncomputable section

namespace Cert.Lines

open Idealize.ShloMosaic Cert.ReferenceIdeal Cert.ReferenceIdeal.Read

/-- The cell of a point, across: the junction maps at the first end points. -/
theorem J1_px0 (x1 : S5000x4.Idx → EReal) (q : Fin 5000) (p : ℝ) (X : Fin 127) (h : val_main_v256 (F := Ideal) x1 (ix1 q) = (p : EReal))
    (h0 : (X.val : ℝ) ≤ p) (h1 : p < (X.val : ℝ) + 1) : val_main_v260 (F := Ideal) x1 (ix1 q) = ((X.val : ℝ) : EReal) := by
  pointwise [val_main_v260, val_main_call9_v4, val_main_call9_v3, val_main_c_54, val_main_call9_v2, val_main_call9_v1,
      val_main_call9_v0, val_main_c_53, val_main_v259]
  rw [h]
  exact lower_cell p X h0 h1

/-- The cell of a point, down: the junction maps at the first end points. -/
theorem J1_py0 (x1 : S5000x4.Idx → EReal) (q : Fin 5000) (p : ℝ) (X : Fin 127) (h : val_main_v258 (F := Ideal) x1 (ix1 q) = (p : EReal))
    (h0 : (X.val : ℝ) ≤ p) (h1 : p < (X.val : ℝ) + 1) : val_main_v262 (F := Ideal) x1 (ix1 q) = ((X.val : ℝ) : EReal) := by
  pointwise [val_main_v262, val_main_call10_v4, val_main_call10_v3, val_main_c_56, val_main_call10_v2, val_main_call10_v1,
      val_main_call10_v0, val_main_c_55, val_main_v261]
  rw [h]
  exact lower_cell p X h0 h1

/-- The cell's upper corner, across: the junction maps at the first end points. -/
theorem J1_px1 (x1 : S5000x4.Idx → EReal) (q : Fin 5000) (p : ℝ) (X : Fin 127) (h : val_main_v256 (F := Ideal) x1 (ix1 q) = (p : EReal))
    (h0 : (X.val : ℝ) ≤ p) (h1 : p < (X.val : ℝ) + 1) : val_main_v265 (F := Ideal) x1 (ix1 q) = (((X.val : ℝ) + 1 : ℝ) : EReal) := by
  pointwise [val_main_v265, val_main_call11_v4, val_main_call11_v3, val_main_c_59, val_main_call11_v2, val_main_call11_v1,
      val_main_call11_v0, val_main_c_58, val_main_v264, val_main_v263, val_main_cst_57]
  exact upper_cell X _ _ (J1_px0 x1 q p X h h0 h1) rfl

/-- The cell's upper corner, down: the junction maps at the first end points. -/
theorem J1_py1 (x1 : S5000x4.Idx → EReal) (q : Fin 5000) (p : ℝ) (X : Fin 127) (h : val_main_v258 (F := Ideal) x1 (ix1 q) = (p : EReal))
    (h0 : (X.val : ℝ) ≤ p) (h1 : p < (X.val : ℝ) + 1) : val_main_v268 (F := Ideal) x1 (ix1 q) = (((X.val : ℝ) + 1 : ℝ) : EReal) := by
  pointwise [val_main_v268, val_main_call12_v4, val_main_call12_v3, val_main_c_62, val_main_call12_v2, val_main_call12_v1,
      val_main_call12_v0, val_main_c_61, val_main_v267, val_main_v266, val_main_cst_60]
  exact upper_cell X _ _ (J1_py0 x1 q p X h h0 h1) rfl

/-- The map read at corner 1 of the cell: the junction maps at the first end points. -/
theorem J1_g1 (x0 : S256x128x128.Idx → EReal) (x1 : S5000x4.Idx → EReal) (x2 : S128x256.Idx → EReal) (x3 : S128.Idx → EReal) (ch : Fin 128) (q : Fin 5000) (px py : ℝ) (X Y : Fin 127)
    (hx : val_main_v256 (F := Ideal) x1 (ix1 q) = (px : EReal)) (hy : val_main_v258 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v286 (F := Ideal) x0 x1 x2 x3 (ix2 ch q) = val_main_v3 (F := Ideal) x0 x2 x3 (ix3 ch Y.castSucc X.castSucc) := by
  have hY := Y.isLt
  have hX := X.isLt
  refine gather_map _ rfl rfl rfl rfl rfl _ _ ch q Y.castSucc X.castSucc ?_ ?_
  · pointwise [val_main_v285, val_main_v283, val_main_v277, val_main_v274, val_main_v270, val_main_v273, val_main_c_63,
      val_main_v276, val_main_v275, val_main_c_64, val_main_v284, val_main_v282, val_main_v279, val_main_v269,
      val_main_v278, val_main_c_65, val_main_v281, val_main_v280, val_main_c_66]
    exact wrap_word Y.val (by omega) _ _ _ (grid_word _ Y.val (by omega) (J1_py0 x1 q py Y hy hy0 hy1)) rfl
  · pointwise [val_main_v285, val_main_v283, val_main_v277, val_main_v274, val_main_v270, val_main_v273, val_main_c_63,
      val_main_v276, val_main_v275, val_main_c_64, val_main_v284, val_main_v282, val_main_v279, val_main_v269,
      val_main_v278, val_main_c_65, val_main_v281, val_main_v280, val_main_c_66]
    exact wrap_word X.val (by omega) _ _ _ (grid_word _ X.val (by omega) (J1_px0 x1 q px X hx hx0 hx1)) rfl

/-- The map read at corner 2 of the cell: the junction maps at the first end points. -/
theorem J1_g2 (x0 : S256x128x128.Idx → EReal) (x1 : S5000x4.Idx → EReal) (x2 : S128x256.Idx → EReal) (x3 : S128.Idx → EReal) (ch : Fin 128) (q : Fin 5000) (px py : ℝ) (X Y : Fin 127)
    (hx : val_main_v256 (F := Ideal) x1 (ix1 q) = (px : EReal)) (hy : val_main_v258 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v308 (F := Ideal) x0 x1 x2 x3 (ix2 ch q) = val_main_v3 (F := Ideal) x0 x2 x3 (ix3 ch Y.succ X.castSucc) := by
  have hY := Y.isLt
  have hX := X.isLt
  refine gather_map _ rfl rfl rfl rfl rfl _ _ ch q Y.succ X.castSucc ?_ ?_
  · pointwise [val_main_v307, val_main_v305, val_main_v299, val_main_v296, val_main_v272, val_main_v295, val_main_c_67,
      val_main_v298, val_main_v297, val_main_c_68, val_main_v306, val_main_v304, val_main_v301, val_main_v269,
      val_main_v300, val_main_c_69, val_main_v303, val_main_v302, val_main_c_70]
    exact wrap_word (Y.val + 1) (by omega) _ _ _ (grid_word _ (Y.val + 1) (by omega) ((J1_py1 x1 q py Y hy hy0 hy1).trans (by push_cast; rfl))) rfl
  · pointwise [val_main_v307, val_main_v305, val_main_v299, val_main_v296, val_main_v272, val_main_v295, val_main_c_67,
      val_main_v298, val_main_v297, val_main_c_68, val_main_v306, val_main_v304, val_main_v301, val_main_v269,
      val_main_v300, val_main_c_69, val_main_v303, val_main_v302, val_main_c_70]
    exact wrap_word X.val (by omega) _ _ _ (grid_word _ X.val (by omega) (J1_px0 x1 q px X hx hx0 hx1)) rfl

/-- The map read at corner 3 of the cell: the junction maps at the first end points. -/
theorem J1_g3 (x0 : S256x128x128.Idx → EReal) (x1 : S5000x4.Idx → EReal) (x2 : S128x256.Idx → EReal) (x3 : S128.Idx → EReal) (ch : Fin 128) (q : Fin 5000) (px py : ℝ) (X Y : Fin 127)
    (hx : val_main_v256 (F := Ideal) x1 (ix1 q) = (px : EReal)) (hy : val_main_v258 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v331 (F := Ideal) x0 x1 x2 x3 (ix2 ch q) = val_main_v3 (F := Ideal) x0 x2 x3 (ix3 ch Y.castSucc X.succ) := by
  have hY := Y.isLt
  have hX := X.isLt
  refine gather_map _ rfl rfl rfl rfl rfl _ _ ch q Y.castSucc X.succ ?_ ?_
  · pointwise [val_main_v330, val_main_v328, val_main_v322, val_main_v319, val_main_v270, val_main_v318, val_main_c_71,
      val_main_v321, val_main_v320, val_main_c_72, val_main_v329, val_main_v327, val_main_v324, val_main_v271,
      val_main_v323, val_main_c_73, val_main_v326, val_main_v325, val_main_c_74]
    exact wrap_word Y.val (by omega) _ _ _ (grid_word _ Y.val (by omega) (J1_py0 x1 q py Y hy hy0 hy1)) rfl
  · pointwise [val_main_v330, val_main_v328, val_main_v322, val_main_v319, val_main_v270, val_main_v318, val_main_c_71,
      val_main_v321, val_main_v320, val_main_c_72, val_main_v329, val_main_v327, val_main_v324, val_main_v271,
      val_main_v323, val_main_c_73, val_main_v326, val_main_v325, val_main_c_74]
    exact wrap_word (X.val + 1) (by omega) _ _ _ (grid_word _ (X.val + 1) (by omega) ((J1_px1 x1 q px X hx hx0 hx1).trans (by push_cast; rfl))) rfl

/-- The map read at corner 4 of the cell: the junction maps at the first end points. -/
theorem J1_g4 (x0 : S256x128x128.Idx → EReal) (x1 : S5000x4.Idx → EReal) (x2 : S128x256.Idx → EReal) (x3 : S128.Idx → EReal) (ch : Fin 128) (q : Fin 5000) (px py : ℝ) (X Y : Fin 127)
    (hx : val_main_v256 (F := Ideal) x1 (ix1 q) = (px : EReal)) (hy : val_main_v258 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v354 (F := Ideal) x0 x1 x2 x3 (ix2 ch q) = val_main_v3 (F := Ideal) x0 x2 x3 (ix3 ch Y.succ X.succ) := by
  have hY := Y.isLt
  have hX := X.isLt
  refine gather_map _ rfl rfl rfl rfl rfl _ _ ch q Y.succ X.succ ?_ ?_
  · pointwise [val_main_v353, val_main_v351, val_main_v345, val_main_v342, val_main_v272, val_main_v341, val_main_c_75,
      val_main_v344, val_main_v343, val_main_c_76, val_main_v352, val_main_v350, val_main_v347, val_main_v271,
      val_main_v346, val_main_c_77, val_main_v349, val_main_v348, val_main_c_78]
    exact wrap_word (Y.val + 1) (by omega) _ _ _ (grid_word _ (Y.val + 1) (by omega) ((J1_py1 x1 q py Y hy hy0 hy1).trans (by push_cast; rfl))) rfl
  · pointwise [val_main_v353, val_main_v351, val_main_v345, val_main_v342, val_main_v272, val_main_v341, val_main_c_75,
      val_main_v344, val_main_v343, val_main_c_76, val_main_v352, val_main_v350, val_main_v347, val_main_v271,
      val_main_v346, val_main_c_77, val_main_v349, val_main_v348, val_main_c_78]
    exact wrap_word (X.val + 1) (by omega) _ _ _ (grid_word _ (X.val + 1) (by omega) ((J1_px1 x1 q px X hx hx0 hx1).trans (by push_cast; rfl))) rfl

/-- The sampled value is the bilinear interpolation in the point's cell: the junction maps at the first end points. -/
theorem J1_bil (x0 : S256x128x128.Idx → EReal) (x1 : S5000x4.Idx → EReal) (x2 : S128x256.Idx → EReal) (x3 : S128.Idx → EReal) (ch : Fin 128) (q : Fin 5000) (px py : ℝ) (X Y : Fin 127)
    (hx : val_main_v256 (F := Ideal) x1 (ix1 q) = (px : EReal)) (hy : val_main_v258 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v363 (F := Ideal) x0 x1 x2 x3 (ix2 ch q) = bil (fun y x => val_main_v3 (F := Ideal) x0 x2 x3 (ix3 ch y x)) px py X Y := by
  pointwise [val_main_v363, val_main_v340, val_main_v317, val_main_v294, val_main_v290, val_main_v289, val_main_v288,
      val_main_v287, val_main_v293, val_main_v292, val_main_v291, val_main_v316, val_main_v312, val_main_v311,
      val_main_v310, val_main_v309, val_main_v315, val_main_v314, val_main_v313, val_main_v339, val_main_v335,
      val_main_v334, val_main_v333, val_main_v332, val_main_v338, val_main_v337, val_main_v336, val_main_v362,
      val_main_v358, val_main_v357, val_main_v356, val_main_v355, val_main_v361, val_main_v360, val_main_v359]
  rw [J1_g1 x0 x1 x2 x3 ch q px py X Y hx hy hx0 hx1 hy0 hy1, J1_g2 x0 x1 x2 x3 ch q px py X Y hx hy hx0 hx1 hy0 hy1,
    J1_g3 x0 x1 x2 x3 ch q px py X Y hx hy hx0 hx1 hy0 hy1, J1_g4 x0 x1 x2 x3 ch q px py X Y hx hy hx0 hx1 hy0 hy1, J1_px0 x1 q px X hx hx0 hx1, J1_py0 x1 q py Y hy hy0 hy1,
    J1_px1 x1 q px X hx hx0 hx1, J1_py1 x1 q py Y hy hy0 hy1, hx, hy]
  simp only [← EReal.coe_sub]
  rfl

end Cert.Lines
-- ==== Proof.RefJ2.lean ====
/- The reference's bilinear sampling, the junction maps at the second end points. -/
module

public import proofs.«01_k».proof.Proof.RefScalars

@[expose] public section

set_option maxRecDepth 16384

noncomputable section

namespace Cert.Lines

open Idealize.ShloMosaic Cert.ReferenceIdeal Cert.ReferenceIdeal.Read

/-- The cell of a point, across: the junction maps at the second end points. -/
theorem J2_px0 (x1 : S5000x4.Idx → EReal) (q : Fin 5000) (p : ℝ) (X : Fin 127) (h : val_main_v366 (F := Ideal) x1 (ix1 q) = (p : EReal))
    (h0 : (X.val : ℝ) ≤ p) (h1 : p < (X.val : ℝ) + 1) : val_main_v370 (F := Ideal) x1 (ix1 q) = ((X.val : ℝ) : EReal) := by
  pointwise [val_main_v370, val_main_call13_v4, val_main_call13_v3, val_main_c_80, val_main_call13_v2, val_main_call13_v1,
      val_main_call13_v0, val_main_c_79, val_main_v369]
  rw [h]
  exact lower_cell p X h0 h1

/-- The cell of a point, down: the junction maps at the second end points. -/
theorem J2_py0 (x1 : S5000x4.Idx → EReal) (q : Fin 5000) (p : ℝ) (X : Fin 127) (h : val_main_v368 (F := Ideal) x1 (ix1 q) = (p : EReal))
    (h0 : (X.val : ℝ) ≤ p) (h1 : p < (X.val : ℝ) + 1) : val_main_v372 (F := Ideal) x1 (ix1 q) = ((X.val : ℝ) : EReal) := by
  pointwise [val_main_v372, val_main_call14_v4, val_main_call14_v3, val_main_c_82, val_main_call14_v2, val_main_call14_v1,
      val_main_call14_v0, val_main_c_81, val_main_v371]
  rw [h]
  exact lower_cell p X h0 h1

/-- The cell's upper corner, across: the junction maps at the second end points. -/
theorem J2_px1 (x1 : S5000x4.Idx → EReal) (q : Fin 5000) (p : ℝ) (X : Fin 127) (h : val_main_v366 (F := Ideal) x1 (ix1 q) = (p : EReal))
    (h0 : (X.val : ℝ) ≤ p) (h1 : p < (X.val : ℝ) + 1) : val_main_v375 (F := Ideal) x1 (ix1 q) = (((X.val : ℝ) + 1 : ℝ) : EReal) := by
  pointwise [val_main_v375, val_main_call15_v4, val_main_call15_v3, val_main_c_85, val_main_call15_v2, val_main_call15_v1,
      val_main_call15_v0, val_main_c_84, val_main_v374, val_main_v373, val_main_cst_83]
  exact upper_cell X _ _ (J2_px0 x1 q p X h h0 h1) rfl

/-- The cell's upper corner, down: the junction maps at the second end points. -/
theorem J2_py1 (x1 : S5000x4.Idx → EReal) (q : Fin 5000) (p : ℝ) (X : Fin 127) (h : val_main_v368 (F := Ideal) x1 (ix1 q) = (p : EReal))
    (h0 : (X.val : ℝ) ≤ p) (h1 : p < (X.val : ℝ) + 1) : val_main_v378 (F := Ideal) x1 (ix1 q) = (((X.val : ℝ) + 1 : ℝ) : EReal) := by
  pointwise [val_main_v378, val_main_call16_v4, val_main_call16_v3, val_main_c_88, val_main_call16_v2, val_main_call16_v1,
      val_main_call16_v0, val_main_c_87, val_main_v377, val_main_v376, val_main_cst_86]
  exact upper_cell X _ _ (J2_py0 x1 q p X h h0 h1) rfl

/-- The map read at corner 1 of the cell: the junction maps at the second end points. -/
theorem J2_g1 (x0 : S256x128x128.Idx → EReal) (x1 : S5000x4.Idx → EReal) (x2 : S128x256.Idx → EReal) (x3 : S128.Idx → EReal) (ch : Fin 128) (q : Fin 5000) (px py : ℝ) (X Y : Fin 127)
    (hx : val_main_v366 (F := Ideal) x1 (ix1 q) = (px : EReal)) (hy : val_main_v368 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v396 (F := Ideal) x0 x1 x2 x3 (ix2 ch q) = val_main_v3 (F := Ideal) x0 x2 x3 (ix3 ch Y.castSucc X.castSucc) := by
  have hY := Y.isLt
  have hX := X.isLt
  refine gather_map _ rfl rfl rfl rfl rfl _ _ ch q Y.castSucc X.castSucc ?_ ?_
  · pointwise [val_main_v395, val_main_v393, val_main_v387, val_main_v384, val_main_v380, val_main_v383, val_main_c_89,
      val_main_v386, val_main_v385, val_main_c_90, val_main_v394, val_main_v392, val_main_v389, val_main_v379,
      val_main_v388, val_main_c_91, val_main_v391, val_main_v390, val_main_c_92]
    exact wrap_word Y.val (by omega) _ _ _ (grid_word _ Y.val (by omega) (J2_py0 x1 q py Y hy hy0 hy1)) rfl
  · pointwise [val_main_v395, val_main_v393, val_main_v387, val_main_v384, val_main_v380, val_main_v383, val_main_c_89,
      val_main_v386, val_main_v385, val_main_c_90, val_main_v394, val_main_v392, val_main_v389, val_main_v379,
      val_main_v388, val_main_c_91, val_main_v391, val_main_v390, val_main_c_92]
    exact wrap_word X.val (by omega) _ _ _ (grid_word _ X.val (by omega) (J2_px0 x1 q px X hx hx0 hx1)) rfl

/-- The map read at corner 2 of the cell: the junction maps at the second end points. -/
theorem J2_g2 (x0 : S256x128x128.Idx → EReal) (x1 : S5000x4.Idx → EReal) (x2 : S128x256.Idx → EReal) (x3 : S128.Idx → EReal) (ch : Fin 128) (q : Fin 5000) (px py : ℝ) (X Y : Fin 127)
    (hx : val_main_v366 (F := Ideal) x1 (ix1 q) = (px : EReal)) (hy : val_main_v368 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v418 (F := Ideal) x0 x1 x2 x3 (ix2 ch q) = val_main_v3 (F := Ideal) x0 x2 x3 (ix3 ch Y.succ X.castSucc) := by
  have hY := Y.isLt
  have hX := X.isLt
  refine gather_map _ rfl rfl rfl rfl rfl _ _ ch q Y.succ X.castSucc ?_ ?_
  · pointwise [val_main_v417, val_main_v415, val_main_v409, val_main_v406, val_main_v382, val_main_v405, val_main_c_93,
      val_main_v408, val_main_v407, val_main_c_94, val_main_v416, val_main_v414, val_main_v411, val_main_v379,
      val_main_v410, val_main_c_95, val_main_v413, val_main_v412, val_main_c_96]
    exact wrap_word (Y.val + 1) (by omega) _ _ _ (grid_word _ (Y.val + 1) (by omega) ((J2_py1 x1 q py Y hy hy0 hy1).trans (by push_cast; rfl))) rfl
  · pointwise [val_main_v417, val_main_v415, val_main_v409, val_main_v406, val_main_v382, val_main_v405, val_main_c_93,
      val_main_v408, val_main_v407, val_main_c_94, val_main_v416, val_main_v414, val_main_v411, val_main_v379,
      val_main_v410, val_main_c_95, val_main_v413, val_main_v412, val_main_c_96]
    exact wrap_word X.val (by omega) _ _ _ (grid_word _ X.val (by omega) (J2_px0 x1 q px X hx hx0 hx1)) rfl

/-- The map read at corner 3 of the cell: the junction maps at the second end points. -/
theorem J2_g3 (x0 : S256x128x128.Idx → EReal) (x1 : S5000x4.Idx → EReal) (x2 : S128x256.Idx → EReal) (x3 : S128.Idx → EReal) (ch : Fin 128) (q : Fin 5000) (px py : ℝ) (X Y : Fin 127)
    (hx : val_main_v366 (F := Ideal) x1 (ix1 q) = (px : EReal)) (hy : val_main_v368 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v441 (F := Ideal) x0 x1 x2 x3 (ix2 ch q) = val_main_v3 (F := Ideal) x0 x2 x3 (ix3 ch Y.castSucc X.succ) := by
  have hY := Y.isLt
  have hX := X.isLt
  refine gather_map _ rfl rfl rfl rfl rfl _ _ ch q Y.castSucc X.succ ?_ ?_
  · pointwise [val_main_v440, val_main_v438, val_main_v432, val_main_v429, val_main_v380, val_main_v428, val_main_c_97,
      val_main_v431, val_main_v430, val_main_c_98, val_main_v439, val_main_v437, val_main_v434, val_main_v381,
      val_main_v433, val_main_c_99, val_main_v436, val_main_v435, val_main_c_100]
    exact wrap_word Y.val (by omega) _ _ _ (grid_word _ Y.val (by omega) (J2_py0 x1 q py Y hy hy0 hy1)) rfl
  · pointwise [val_main_v440, val_main_v438, val_main_v432, val_main_v429, val_main_v380, val_main_v428, val_main_c_97,
      val_main_v431, val_main_v430, val_main_c_98, val_main_v439, val_main_v437, val_main_v434, val_main_v381,
      val_main_v433, val_main_c_99, val_main_v436, val_main_v435, val_main_c_100]
    exact wrap_word (X.val + 1) (by omega) _ _ _ (grid_word _ (X.val + 1) (by omega) ((J2_px1 x1 q px X hx hx0 hx1).trans (by push_cast; rfl))) rfl

/-- The map read at corner 4 of the cell: the junction maps at the second end points. -/
theorem J2_g4 (x0 : S256x128x128.Idx → EReal) (x1 : S5000x4.Idx → EReal) (x2 : S128x256.Idx → EReal) (x3 : S128.Idx → EReal) (ch : Fin 128) (q : Fin 5000) (px py : ℝ) (X Y : Fin 127)
    (hx : val_main_v366 (F := Ideal) x1 (ix1 q) = (px : EReal)) (hy : val_main_v368 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v464 (F := Ideal) x0 x1 x2 x3 (ix2 ch q) = val_main_v3 (F := Ideal) x0 x2 x3 (ix3 ch Y.succ X.succ) := by
  have hY := Y.isLt
  have hX := X.isLt
  refine gather_map _ rfl rfl rfl rfl rfl _ _ ch q Y.succ X.succ ?_ ?_
  · pointwise [val_main_v463, val_main_v461, val_main_v455, val_main_v452, val_main_v382, val_main_v451, val_main_c_101,
      val_main_v454, val_main_v453, val_main_c_102, val_main_v462, val_main_v460, val_main_v457, val_main_v381,
      val_main_v456, val_main_c_103, val_main_v459, val_main_v458, val_main_c_104]
    exact wrap_word (Y.val + 1) (by omega) _ _ _ (grid_word _ (Y.val + 1) (by omega) ((J2_py1 x1 q py Y hy hy0 hy1).trans (by push_cast; rfl))) rfl
  · pointwise [val_main_v463, val_main_v461, val_main_v455, val_main_v452, val_main_v382, val_main_v451, val_main_c_101,
      val_main_v454, val_main_v453, val_main_c_102, val_main_v462, val_main_v460, val_main_v457, val_main_v381,
      val_main_v456, val_main_c_103, val_main_v459, val_main_v458, val_main_c_104]
    exact wrap_word (X.val + 1) (by omega) _ _ _ (grid_word _ (X.val + 1) (by omega) ((J2_px1 x1 q px X hx hx0 hx1).trans (by push_cast; rfl))) rfl

/-- The sampled value is the bilinear interpolation in the point's cell: the junction maps at the second end points. -/
theorem J2_bil (x0 : S256x128x128.Idx → EReal) (x1 : S5000x4.Idx → EReal) (x2 : S128x256.Idx → EReal) (x3 : S128.Idx → EReal) (ch : Fin 128) (q : Fin 5000) (px py : ℝ) (X Y : Fin 127)
    (hx : val_main_v366 (F := Ideal) x1 (ix1 q) = (px : EReal)) (hy : val_main_v368 (F := Ideal) x1 (ix1 q) = (py : EReal))
    (hx0 : (X.val : ℝ) ≤ px) (hx1 : px < (X.val : ℝ) + 1) (hy0 : (Y.val : ℝ) ≤ py) (hy1 : py < (Y.val : ℝ) + 1) :
    val_main_v473 (F := Ideal) x0 x1 x2 x3 (ix2 ch q) = bil (fun y x => val_main_v3 (F := Ideal) x0 x2 x3 (ix3 ch y x)) px py X Y := by
  pointwise [val_main_v473, val_main_v450, val_main_v427, val_main_v404, val_main_v400, val_main_v399, val_main_v398,
      val_main_v397, val_main_v403, val_main_v402, val_main_v401, val_main_v426, val_main_v422, val_main_v421,
      val_main_v420, val_main_v419, val_main_v425, val_main_v424, val_main_v423, val_main_v449, val_main_v445,
      val_main_v444, val_main_v443, val_main_v442, val_main_v448, val_main_v447, val_main_v446, val_main_v472,
      val_main_v468, val_main_v467, val_main_v466, val_main_v465, val_main_v471, val_main_v470, val_main_v469]
  rw [J2_g1 x0 x1 x2 x3 ch q px py X Y hx hy hx0 hx1 hy0 hy1, J2_g2 x0 x1 x2 x3 ch q px py X Y hx hy hx0 hx1 hy0 hy1,
    J2_g3 x0 x1 x2 x3 ch q px py X Y hx hy hx0 hx1 hy0 hy1, J2_g4 x0 x1 x2 x3 ch q px py X Y hx hy hx0 hx1 hy0 hy1, J2_px0 x1 q px X hx hx0 hx1, J2_py0 x1 q py Y hy hy0 hy1,
    J2_px1 x1 q px X hx hx0 hx1, J2_py1 x1 q py Y hy hy0 hy1, hx, hy]
  simp only [← EReal.coe_sub]
  rfl

end Cert.Lines
-- ==== Proof.RefValue.lean ====
/- The reference's result as a function of its arguments, over lines inside the grid. -/
module

public import proofs.«01_k».proof.Proof.RefE1
public import proofs.«01_k».proof.Proof.RefE2
public import proofs.«01_k».proof.Proof.RefJ1
public import proofs.«01_k».proof.Proof.RefJ2

@[expose] public section

set_option maxRecDepth 16384

noncomputable section

namespace Cert.Lines

open Idealize.ShloMosaic Cert.ReferenceIdeal Cert.ReferenceIdeal.Read

/-- A number between two whole numbers of the grid's range lies in a cell. -/
theorem exists_cell (p : ℝ) (h0 : 0 ≤ p) (h1 : p < 127) : ∃ X : Fin 127, (X.val : ℝ) ≤ p ∧ p < (X.val : ℝ) + 1 := by
  refine ⟨⟨⌊p⌋₊, ?_⟩, Nat.floor_le h0, Nat.lt_floor_add_one p⟩
  exact (Nat.floor_lt h0).2 (by exact_mod_cast h1)

/-- The two hat sums about a point inside the grid are the bilinear interpolation in its cell. -/
theorem hs_bil (f : Fin 128 → Fin 128 → EReal) (px py : ℝ) (X Y : Fin 127)
    (hx0 : (X.val : ℝ) ≤ px) (hx1 : px < (X.val : ℝ) + 1) (hy0 : (Y.val : ℝ) ≤ py) (hy1 : py < (Y.val : ℝ) + 1) :
    hs f (px : EReal) (py : EReal) = bil f px py X Y := sum_hat_hat f px py X Y hx0 hx1 hy0 hy1

/-- The junction maps. -/
theorem ref_maps (x0 : S256x128x128.Idx → EReal) (x2 : S128x256.Idx → EReal) (x3 : S128.Idx → EReal) (o y x : Fin 128) :
    val_main_v3 (F := Ideal) x0 x2 x3 (ix3 o y x) = cmapb x0 x2 x3 o y x := by
  pointwise [val_main_v3, val_main_v0, val_main_v2, val_main_v1]
  unfold cmapb cmap
  exact congrArg (· + _) (Finset.sum_congr rfl fun k _ => mul_comm _ _)

/-- The first edge maps, whose bias is zero. -/
theorem ref_maps3 (x0 : S256x128x128.Idx → EReal) (x4 : S4x256.Idx → EReal) (x5 : S4.Idx → EReal) (h : ∀ o, x5 (ix1 o) = 0)
    (o : Fin 4) (y x : Fin 128) : val_main_v7 (F := Ideal) x0 x4 x5 (ix3 o y x) = cmap x0 x4 o y x := by
  pointwise [val_main_v7, val_main_v4, val_main_v6, val_main_v5]
  rw [h, add_zero]
  unfold cmap
  exact Finset.sum_congr rfl fun k _ => mul_comm _ _

/-- The second edge maps, whose bias is zero. -/
theorem ref_maps4 (x0 : S256x128x128.Idx → EReal) (x6 : S4x256.Idx → EReal) (x7 : S4.Idx → EReal) (h : ∀ o, x7 (ix1 o) = 0)
    (o : Fin 4) (y x : Fin 128) : val_main_v11 (F := Ideal) x0 x6 x7 (ix3 o y x) = cmap x0 x6 o y x := by
  pointwise [val_main_v11, val_main_v8, val_main_v10, val_main_v9]
  rw [h, add_zero]
  unfold cmap
  exact Finset.sum_congr rfl fun k _ => mul_comm _ _

/-- The constant thirty-one. -/
theorem ofBits_31 : Ideal.ofBits .f32 1106771968#32 = ((31 : ℝ) : EReal) := by
  simp [Ideal.ofBits, Ideal.ieee, -EReal.coe_mul]; norm_num

/-- The reference's points of the unit interval, but the last, are the kernel's. -/
theorem ref_span (k : Fin 32) (hk : k.val < 31) : val_main_v12 (F := Ideal) (ix1 k) = tk k := by
  pointwise [val_main_v12, val_main_call0_v15, val_main_call0_v11, val_main_call0_v10, val_main_call0_v7, val_main_call0_v0,
    val_main_cst, val_main_call0_v9, val_main_call0_v8, val_main_call0_cst_1, val_main_call0_v6, val_main_call0_v4,
    val_main_call0_v5, val_main_call0_cst_0, val_main_call0_v14, val_main_call0_v13, val_main_call0_v12, val_main_call0_v1,
    val_main_cst_0, val_main_call0_v16]
  rw [dif_pos hk, ofBits_31, sitofp_word k.val (by omega), Ideal.div_coe (by norm_num)]
  have z : (id (constant (F := Ideal) S_ FTy.f32 0#32) ix0 : EReal) = 0 := Ideal.ofBits_zero_f32
  have o : (id (constant (F := Ideal) S_ FTy.f32 1065353216#32) ix0 : EReal) = 1 := Ideal.ofBits_one_f32
  rw [z, o, zero_mul, zero_add, one_mul]
  rfl

/-- A point of a line, from the value at its place of the unit interval. -/
theorem pt_of (l : S5000x4.Idx → EReal) (n : Fin 5000) (k : Fin 32) (p q : Fin 4) (w : EReal) (h : w = tk k) :
    l (ix2 n p) * w + l (ix2 n q) * (1 - w) = pt l n k p q := by
  subst h
  rfl

/-- A point's first coordinate. -/
theorem ref_px (x1 : S5000x4.Idx → EReal) (n : Fin 5000) (a : Fin 30) :
    val_main_v32 (F := Ideal) x1 (ix1 ⟨n.val * 30 + a.val, by omega⟩) = pt x1 n ⟨1 + a.val, by omega⟩ 0 2 := by
  have h : ∀ q : Fin 150000, val_main_v32 (F := Ideal) x1 (ix1 q) = pt x1 ⟨q.val / 30, by omega⟩ ⟨1 + q.val % 30, by omega⟩ 0 2 := by
    intro q
    pointwise [val_main_v32, val_main_v31, val_main_v30, val_main_v29, val_main_v28, val_main_v27, val_main_v19, val_main_v17,
    val_main_v15, val_main_v13, val_main_v18, val_main_v16, val_main_v26, val_main_v24, val_main_v20, val_main_v14,
    val_main_v25, val_main_v23, val_main_v22, val_main_cst_1, val_main_v21]
    exact pt_of x1 _ ⟨1 + q.val % 30, by omega⟩ 0 2 _ (ref_span _ (by show 1 + q.val % 30 < 31; omega))
  refine (h ⟨n.val * 30 + a.val, by omega⟩).trans ?_
  have key : ∀ (n' : Fin 5000) (k' k : Fin 32), n' = n → k' = k → pt x1 n' k' 0 2 = pt x1 n k 0 2 := by
    rintro _ _ _ rfl rfl
    rfl
  exact key _ _ _ (Fin.ext (by show (n.val * 30 + a.val) / 30 = n.val; omega))
    (Fin.ext (by show 1 + (n.val * 30 + a.val) % 30 = 1 + a.val; omega))

/-- A point's second coordinate. -/
theorem ref_py (x1 : S5000x4.Idx → EReal) (n : Fin 5000) (a : Fin 30) :
    val_main_v34 (F := Ideal) x1 (ix1 ⟨n.val * 30 + a.val, by omega⟩) = pt x1 n ⟨1 + a.val, by omega⟩ 1 3 := by
  have h : ∀ q : Fin 150000, val_main_v34 (F := Ideal) x1 (ix1 q) = pt x1 ⟨q.val / 30, by omega⟩ ⟨1 + q.val % 30, by omega⟩ 1 3 := by
    intro q
    pointwise [val_main_v34, val_main_v33, val_main_v30, val_main_v29, val_main_v28, val_main_v27, val_main_v19, val_main_v17,
    val_main_v15, val_main_v13, val_main_v18, val_main_v16, val_main_v26, val_main_v24, val_main_v20, val_main_v14,
    val_main_v25, val_main_v23, val_main_v22, val_main_cst_1, val_main_v21]
    exact pt_of x1 _ ⟨1 + q.val % 30, by omega⟩ 1 3 _ (ref_span _ (by show 1 + q.val % 30 < 31; omega))
  refine (h ⟨n.val * 30 + a.val, by omega⟩).trans ?_
  have key : ∀ (n' : Fin 5000) (k' k : Fin 32), n' = n → k' = k → pt x1 n' k' 1 3 = pt x1 n k 1 3 := by
    rintro _ _ _ rfl rfl
    rfl
  exact key _ _ _ (Fin.ext (by show (n.val * 30 + a.val) / 30 = n.val; omega))
    (Fin.ext (by show 1 + (n.val * 30 + a.val) % 30 = 1 + a.val; omega))

/-- The second block's points are the first's. -/
theorem ref_px' (x1 : S5000x4.Idx → EReal) : val_main_v144 (F := Ideal) x1 = val_main_v32 (F := Ideal) x1 := rfl
theorem ref_py' (x1 : S5000x4.Idx → EReal) : val_main_v146 (F := Ideal) x1 = val_main_v34 (F := Ideal) x1 := rfl

/-- The end points' coordinates are the line's columns. -/
theorem ref_j1x (x1 : S5000x4.Idx → EReal) (n : Fin 5000) : val_main_v256 (F := Ideal) x1 (ix1 n) = x1 (ix2 n 0) := by
  pointwise [val_main_v256, val_main_v255, val_main_v13]
theorem ref_j1y (x1 : S5000x4.Idx → EReal) (n : Fin 5000) : val_main_v258 (F := Ideal) x1 (ix1 n) = x1 (ix2 n 1) := by
  pointwise [val_main_v258, val_main_v257, val_main_v13]
theorem ref_j2x (x1 : S5000x4.Idx → EReal) (n : Fin 5000) : val_main_v366 (F := Ideal) x1 (ix1 n) = x1 (ix2 n 2) := by
  pointwise [val_main_v366, val_main_v365, val_main_v14]
theorem ref_j2y (x1 : S5000x4.Idx → EReal) (n : Fin 5000) : val_main_v368 (F := Ideal) x1 (ix1 n) = x1 (ix2 n 3) := by
  pointwise [val_main_v368, val_main_v367, val_main_v14]

/-- The lines lie inside the grid: each coordinate is a real from zero to below one hundred and twenty-seven. -/
def Inside (l : S5000x4.Idx → EReal) : Prop := ∀ i, ∃ r : ℝ, l i = (r : EReal) ∧ 0 ≤ r ∧ r < 127

/-- A point of a line inside the grid lies inside it. -/
theorem pt_inside {l : S5000x4.Idx → EReal} (hl : Inside l) (n : Fin 5000) (k : Fin 32) (p q : Fin 4) :
    ∃ r : ℝ, pt l n k p q = (r : EReal) ∧ 0 ≤ r ∧ r < 127 := by
  obtain ⟨u, hu, u0, u1⟩ := hl (ix2 n p)
  obtain ⟨v, hv, v0, v1⟩ := hl (ix2 n q)
  have hk : (k.val : ℝ) ≤ 31 := by exact_mod_cast Nat.le_of_lt_succ k.isLt
  have t0 : (0 : ℝ) ≤ (k.val : ℝ) * (1 / 31) := by positivity
  have t1 : (k.val : ℝ) * (1 / 31) ≤ 1 := by linarith
  refine ⟨u * ((k.val : ℝ) * (1 / 31)) + v * (1 - (k.val : ℝ) * (1 / 31)), ?_, ?_, ?_⟩
  · unfold pt tk
    rw [hu, hv]
    push_cast
    rfl
  · have := mul_nonneg u0 t0
    have := mul_nonneg v0 (sub_nonneg.2 t1)
    linarith
  · generalize (k.val : ℝ) * (1 / 31) = t at t0 t1
    nlinarith [mul_nonneg t0 (sub_nonneg.2 u1.le), mul_nonneg (sub_nonneg.2 t1) (sub_nonneg.2 v1.le)]

section Rows

variable (x0 : S256x128x128.Idx → EReal) (x1 : S5000x4.Idx → EReal) (hl : Inside x1)

include hl in
/-- The junction maps at the first end points. -/
theorem ref_j1 (x2 : S128x256.Idx → EReal) (x3 : S128.Idx → EReal) (o : Fin 128) (n : Fin 5000) :
    val_main_v363 (F := Ideal) x0 x1 x2 x3 (ix2 o n) = hs (cmapb x0 x2 x3 o) (x1 (ix2 n 0)) (x1 (ix2 n 1)) := by
  obtain ⟨px, ex, a0, a1⟩ := hl (ix2 n 0)
  obtain ⟨py, ey, b0, b1⟩ := hl (ix2 n 1)
  obtain ⟨X, hx0, hx1⟩ := exists_cell px a0 a1
  obtain ⟨Y, hy0, hy1⟩ := exists_cell py b0 b1
  rw [J1_bil x0 x1 x2 x3 o n px py X Y ((ref_j1x x1 n).trans ex) ((ref_j1y x1 n).trans ey) hx0 hx1 hy0 hy1, ex, ey,
    hs_bil _ px py X Y hx0 hx1 hy0 hy1]
  simp only [ref_maps]

include hl in
/-- The junction maps at the second end points. -/
theorem ref_j2 (x2 : S128x256.Idx → EReal) (x3 : S128.Idx → EReal) (o : Fin 128) (n : Fin 5000) :
    val_main_v473 (F := Ideal) x0 x1 x2 x3 (ix2 o n) = hs (cmapb x0 x2 x3 o) (x1 (ix2 n 2)) (x1 (ix2 n 3)) := by
  obtain ⟨px, ex, a0, a1⟩ := hl (ix2 n 2)
  obtain ⟨py, ey, b0, b1⟩ := hl (ix2 n 3)
  obtain ⟨X, hx0, hx1⟩ := exists_cell px a0 a1
  obtain ⟨Y, hy0, hy1⟩ := exists_cell py b0 b1
  rw [J2_bil x0 x1 x2 x3 o n px py X Y ((ref_j2x x1 n).trans ex) ((ref_j2y x1 n).trans ey) hx0 hx1 hy0 hy1, ex, ey,
    hs_bil _ px py X Y hx0 hx1 hy0 hy1]
  simp only [ref_maps]

include hl in
/-- The first edge maps at a line's inner points. -/
theorem ref_e1 (x4 : S4x256.Idx → EReal) (x5 : S4.Idx → EReal) (h5 : ∀ o, x5 (ix1 o) = 0) (o : Fin 4) (n : Fin 5000) (a : Fin 30) :
    val_main_v139 (F := Ideal) x0 x1 x4 x5 (ix2 o ⟨n.val * 30 + a.val, by omega⟩)
      = hs (cmap x0 x4 o) (pt x1 n ⟨1 + a.val, by omega⟩ 0 2) (pt x1 n ⟨1 + a.val, by omega⟩ 1 3) := by
  obtain ⟨px, ex, a0, a1⟩ := pt_inside hl n ⟨1 + a.val, by omega⟩ 0 2
  obtain ⟨py, ey, b0, b1⟩ := pt_inside hl n ⟨1 + a.val, by omega⟩ 1 3
  obtain ⟨X, hx0, hx1⟩ := exists_cell px a0 a1
  obtain ⟨Y, hy0, hy1⟩ := exists_cell py b0 b1
  rw [E1_bil x0 x1 x4 x5 o _ px py X Y ((ref_px x1 n a).trans ex) ((ref_py x1 n a).trans ey) hx0 hx1 hy0 hy1, ex, ey,
    hs_bil _ px py X Y hx0 hx1 hy0 hy1]
  simp only [ref_maps3 x0 x4 x5 h5]

include hl in
/-- The second edge maps at a line's inner points. -/
theorem ref_e2 (x6 : S4x256.Idx → EReal) (x7 : S4.Idx → EReal) (h7 : ∀ o, x7 (ix1 o) = 0) (o : Fin 4) (n : Fin 5000) (a : Fin 30) :
    val_main_v251 (F := Ideal) x0 x1 x6 x7 (ix2 o ⟨n.val * 30 + a.val, by omega⟩)
      = hs (cmap x0 x6 o) (pt x1 n ⟨1 + a.val, by omega⟩ 0 2) (pt x1 n ⟨1 + a.val, by omega⟩ 1 3) := by
  obtain ⟨px, ex, a0, a1⟩ := pt_inside hl n ⟨1 + a.val, by omega⟩ 0 2
  obtain ⟨py, ey, b0, b1⟩ := pt_inside hl n ⟨1 + a.val, by omega⟩ 1 3
  obtain ⟨X, hx0, hx1⟩ := exists_cell px a0 a1
  obtain ⟨Y, hy0, hy1⟩ := exists_cell py b0 b1
  rw [E2_bil x0 x1 x6 x7 o _ px py X Y (((congrFun (ref_px' x1) _).trans (ref_px x1 n a)).trans ex)
    (((congrFun (ref_py' x1) _).trans (ref_py x1 n a)).trans ey) hx0 hx1 hy0 hy1, ex, ey,
    hs_bil _ px py X Y hx0 hx1 hy0 hy1]
  simp only [ref_maps4 x0 x6 x7 h7]

include hl in
/-- The reference's row of features of a line. -/
theorem ref_row (x2 : S128x256.Idx → EReal) (x3 : S128.Idx → EReal) (x4 : S4x256.Idx → EReal) (x5 : S4.Idx → EReal)
    (x6 : S4x256.Idx → EReal) (x7 : S4.Idx → EReal) (h5 : ∀ o, x5 (ix1 o) = 0) (h7 : ∀ o, x7 (ix1 o) = 0) (n : Fin 5000) (i : Fin 496) :
    val_main_v475 (F := Ideal) x0 x1 x2 x3 x4 x5 x6 x7 (ix2 n i) = row x0 x1 x2 x3 x4 x6 n i := by
  pointwise [val_main_v475, val_main_v364, val_main_v474, val_main_v142, val_main_v141, val_main_v140, val_main_v254, val_main_v253,
    val_main_v252]
  unfold row
  by_cases c0 : i.val < 128
  · rw [dif_pos c0, dif_pos c0]
    exact ref_j1 x0 x1 hl x2 x3 _ n
  rw [dif_neg c0, dif_neg c0]
  by_cases c1 : i.val < 256
  · rw [dif_pos (show i.val - 128 < 128 by omega), dif_pos c1]
    exact ref_j2 x0 x1 hl x2 x3 _ n
  rw [dif_neg (show ¬ i.val - 128 < 128 by omega), dif_neg c1]
  by_cases c2 : i.val < 376
  · rw [dif_pos (show i.val - 128 - 128 < 120 by omega), dif_pos c2]
    have e : i.val - 128 - 128 = i.val - 256 := by omega
    simp only [e]
    exact ref_e1 x0 x1 hl x4 x5 h5 ⟨(i.val - 256) % 4, by omega⟩ n ⟨(i.val - 256) / 4, by omega⟩
  · rw [dif_neg (show ¬ i.val - 128 - 128 < 120 by omega), dif_neg c2]
    have e : i.val - 128 - 128 - 120 = i.val - 376 := by omega
    simp only [e]
    exact ref_e2 x0 x1 hl x6 x7 h7 ⟨(i.val - 376) % 4, by omega⟩ n ⟨(i.val - 376) / 4, by omega⟩

include hl in
/-- The reference's result at a line: the layers over the line's row of features. -/
theorem ref_value (x2 : S128x256.Idx → EReal) (x3 : S128.Idx → EReal) (x4 : S4x256.Idx → EReal) (x5 : S4.Idx → EReal)
    (x6 : S4x256.Idx → EReal) (x7 : S4.Idx → EReal) (x8 : S1024x496.Idx → EReal) (x9 : S1024.Idx → EReal)
    (x10 : S1024x1024.Idx → EReal) (x11 : S1024.Idx → EReal) (x12 : S1024x1024.Idx → EReal) (x13 : S1024.Idx → EReal)
    (x14 : S1x1024.Idx → EReal) (x15 : S1.Idx → EReal) (h5 : ∀ o, x5 (ix1 o) = 0) (h7 : ∀ o, x7 (ix1 o) = 0) (n : Fin 5000) :
    val_main_v498 (F := Ideal) x0 x1 x2 x3 x4 x5 x6 x7 x8 x9 x10 x11 x12 x13 x14 x15 (ix1 n)
      = net (row x0 x1 x2 x3 x4 x6 n) x8 x9 x10 x11 x12 x13 x14 x15 := by
  pointwise [val_main_v498, val_main_v497, val_main_v494, val_main_v492, val_main_v489, val_main_v487, val_main_v486, val_main_v483,
    val_main_v481, val_main_v480, val_main_v477, val_main_v476, val_main_v479, val_main_v478, val_main_call17_v0,
    val_main_call17_cst, val_main_v482, val_main_v485, val_main_v484, val_main_call18_v0, val_main_call18_cst,
    val_main_v488, val_main_v491, val_main_v490, val_main_v493, val_main_v496, val_main_v495]
  simp only [ref_row x0 x1 hl x2 x3 x4 x5 x6 x7 h5 h7]
  rfl

end Rows

end Cert.Lines
-- ==== Proof.Inside.lean ====
/- What the precondition says of the arguments: the lines lie inside the grid and the two edge biases are zero. -/
module

public import proofs.«01_k».proof.Pre_lines_inside
public import proofs.«01_k».proof.Proof.RefValue

@[expose] public section

noncomputable section

namespace Cert.Lines

open Idealize.ShloMosaic

/-- The precondition's shape relations. -/
instance pre_facts : Cert.Pre_lines_inside.Facts where
  bcast_S_S5000x4 := by decide
  bcast_S_S4 := by decide

/-- The constant one hundred and twenty-seven. -/
theorem ofBits_127 : Ideal.ofBits .f32 0x42FE0000#32 = ((127 : ℝ) : EReal) := by
  simp [Ideal.ofBits, Ideal.ieee, -EReal.coe_mul]; norm_num

/-- The conjunction of two flags is set only if both are. -/
theorem and_flag (a b : BitVec 1) (h : IntOp.andi a b = 1#1) : a = 1#1 ∧ b = 1#1 := by
  revert a b
  unfold IntOp.andi
  decide

section

variable (x0 : Cert.Pre_lines_inside.S256x128x128.Idx → EReal) (x1 : Cert.Pre_lines_inside.S5000x4.Idx → EReal)
  (x2 : Cert.Pre_lines_inside.S128x256.Idx → EReal) (x3 : Cert.Pre_lines_inside.S128.Idx → EReal)
  (x4 : Cert.Pre_lines_inside.S4x256.Idx → EReal) (x5 : Cert.Pre_lines_inside.S4.Idx → EReal)
  (x6 : Cert.Pre_lines_inside.S4x256.Idx → EReal) (x7 : Cert.Pre_lines_inside.S4.Idx → EReal)
  (x8 : Cert.Pre_lines_inside.S1024x496.Idx → EReal) (x9 : Cert.Pre_lines_inside.S1024.Idx → EReal)
  (x10 : Cert.Pre_lines_inside.S1024x1024.Idx → EReal) (x11 : Cert.Pre_lines_inside.S1024.Idx → EReal)
  (x12 : Cert.Pre_lines_inside.S1024x1024.Idx → EReal) (x13 : Cert.Pre_lines_inside.S1024.Idx → EReal)
  (x14 : Cert.Pre_lines_inside.S1x1024.Idx → EReal) (x15 : Cert.Pre_lines_inside.S1.Idx → EReal)

/-- The first flag says the lines lie inside the grid. -/
theorem inside_of (h : (Cert.Pre_lines_inside.fn (F := Ideal) x0 x1 x2 x3 x4 x5 x6 x7 x8 x9 x10 x11 x12 x13 x14 x15).1 = fun _ => 1#1) :
    Inside x1 := by
  intro i
  obtain ⟨a, b⟩ := and_flag _ _ (congrFun h i)
  have a : (0 : EReal) ≤ x1 i := by
    rw [← Ideal.ofBits_zero_f32]
    exact (Ideal.cmp_oge_eq_one (x1 i) (Ideal.ofBits .f32 0x00000000#32)).1 a
  have b : x1 i < ((127 : ℝ) : EReal) := by
    rw [← ofBits_127]
    exact (Ideal.cmp_olt_eq_one (x1 i) (Ideal.ofBits .f32 0x42FE0000#32)).1 b
  have hb : x1 i ≠ ⊥ := fun e => by rw [e] at a; exact absurd a (by simp)
  have ht : x1 i ≠ ⊤ := ne_top_of_lt b
  refine ⟨(x1 i).toReal, (EReal.coe_toReal ht hb).symm, EReal.coe_nonneg.1 ?_, EReal.coe_lt_coe_iff.1 ?_⟩
  · rw [EReal.coe_toReal ht hb]; exact a
  · rw [EReal.coe_toReal ht hb]; exact b

/-- The second flag says the first edge bias is zero. -/
theorem bias3_of (h : (Cert.Pre_lines_inside.fn (F := Ideal) x0 x1 x2 x3 x4 x5 x6 x7 x8 x9 x10 x11 x12 x13 x14 x15).2.1 = fun _ => 1#1)
    (o : Fin 4) : x5 (ix1 o) = 0 := by
  rw [← Ideal.ofBits_zero_f32]
  exact (Ideal.cmp_oeq_eq_one (x5 (ix1 o)) (Ideal.ofBits .f32 0x00000000#32)).1 (congrFun h (ix1 o))

/-- The third flag says the second edge bias is zero. -/
theorem bias4_of (h : (Cert.Pre_lines_inside.fn (F := Ideal) x0 x1 x2 x3 x4 x5 x6 x7 x8 x9 x10 x11 x12 x13 x14 x15).2.2 = fun _ => 1#1)
    (o : Fin 4) : x7 (ix1 o) = 0 := by
  rw [← Ideal.ofBits_zero_f32]
  exact (Ideal.cmp_oeq_eq_one (x7 (ix1 o)) (Ideal.ofBits .f32 0x00000000#32)).1 (congrFun h (ix1 o))

end

end Cert.Lines
-- ==== Proof.KernelRun.lean ====
/- The kernel's run: every run of @main ends with the result array at what the fold over the segments leaves there, and
   every argument array as launched. -/
module

public import proofs.«01_k».proof.Proof.Gen.KernelIdeal.Frame

@[expose] public section

set_option maxRecDepth 16384

noncomputable section

namespace Cert.Lines

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory every run of the kernel's @main ends with the result at the last boundary's contents and the sixteen
    arguments unchanged. -/
theorem kernel_run : θ_run defs (onTc (τ := τ) (main (F := Ideal))) ⟨m, fun _ => 0, ρ⟩ (fun r => ∀ c : Dev nD,
      r.2.mem ((c.tc : Thread nD τ).loc main_v71) = W26 m ρ c main_v71
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl, fun _ => .rfl,
        fun _ => .rfl, fun _ => .rfl, fun _ => .rfl, fun c => ?_⟩
      dsimp only [Pipeline.Seg.post, hseg, Pipeline.HostSeg.ofOps]
      iintro ⟨Hh, Hp, HO⟩
      isplitl [Hh Hp]
      · isplitl [Hh]; · iexact Hh
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h _ c =>
      ⟨h c _ (mem_uc main_v71 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c)⟩)

end Cert.Lines
-- ==== Proof.Region0.lean ====
/- The two arrays the first region (the two convolutions) leaves, as functions of the arrays it finds. -/
module

public import proofs.«01_k».proof.Proof.Gen.KernelIdeal.Frame
public import proofs.«01_k».proof.Proof.Payloads
public import Idealize.ShloMosaic.Lib.Pipeline.ValueKit

@[expose] public section

set_option maxRecDepth 16384

noncomputable section

namespace Cert.Lines

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- A matrix product at one index. -/
def mm {M K N : ℕ} (x : (⟨2, ![M, K]⟩ : Shape).Idx → EReal) (w : (⟨2, ![K, N]⟩ : Shape).Idx → EReal) :
    (⟨2, ![M, N]⟩ : Shape).Idx → EReal := fun i => ∑ k : Fin K, x (ix2 (i 0) k) * w (ix2 k (i 1))

/-- A matrix product and a row added to each row. -/
def mmb {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal := fun i => mm x w i + b (ix2 0 (i 1))

theorem ix0_0 : ∀ t : Fin cfg0.N, win0_0.index t = ![t.val, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![0, 0] := (by decide +kernel : ∀ t : Fin grid0.N, _)
theorem ix0_3 : ∀ t : Fin cfg0.N, win0_3.index t = ![0, 0] := (by decide +kernel : ∀ t : Fin grid0.N, _)
theorem ix0_4 : ∀ t : Fin cfg0.N, win0_4.index t = ![t.val, 0] := (by decide +kernel : ∀ t : Fin grid0.N, _)
theorem ix0_5 : ∀ t : Fin cfg0.N, win0_5.index t = ![t.val, 0] := (by decide +kernel : ∀ t : Fin grid0.N, _)

/-- The first array the region leaves: the rows times the junction weights, and the bias. -/
theorem final0_4 (c : Dev nD) : (dat0 V c).arrAt 4 cfg0.N = mmb (V c main_v1) (V c main_v2) (V c main_v6) := by
  refine (dat0 V c).arrAt_eq_of_covers 4 _ (by decide +kernel) fun t hf y => ?_
  blk_simp
  rw [after0_4]; frame_out
  obtain ⟨a, b, rfl⟩ : ∃ (a : Fin 2048) (b : Fin 128), y = ix2 a b := ⟨y 0, y 1, eq_ix2 y⟩
  refine (k0_pay2_apply _ _ _ a b).trans ?_
  unfold mmb mm
  blk_point [iblk0, ix0_0 t, ix0_1 t, ix0_3 t, ix0_4 t]

/-- The second array the region leaves: the rows times the edge weights. -/
theorem final0_5 (c : Dev nD) : (dat0 V c).arrAt 5 cfg0.N = mm (V c main_v1) (V c main_v5) := by
  refine (dat0 V c).arrAt_eq_of_covers 5 _ (by decide +kernel) fun t hf y => ?_
  blk_simp
  rw [after0_5]; frame_out
  obtain ⟨a, b, rfl⟩ : ∃ (a : Fin 2048) (b : Fin 128), y = ix2 a b := ⟨y 0, y 1, eq_ix2 y⟩
  refine (k0_pay3_apply _ _ a b).trans ?_
  unfold mm
  blk_point [iblk0, ix0_0 t, ix0_2 t, ix0_5 t]

end Cert.Lines

end
-- ==== Proof.Region1.lean ====
/- The array the second region (the end points) leaves, as a function of the arrays it finds. -/
module

public import proofs.«01_k».proof.Proof.Gen.KernelIdeal.Frame
public import proofs.«01_k».proof.Proof.Region0
public import Idealize.ShloMosaic.Lib.Pipeline.ValueKit

@[expose] public section

set_option maxRecDepth 16384

noncomputable section

namespace Cert.Lines

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The end points' values: row `R` of block `R / 256`, whose first half is at the lines' first end points and whose second
    half at their second. -/
def juncs (ln : S5120x4.Idx → EReal) (yl : S1x128.Idx → EReal) (tj : S128x16384.Idx → EReal) (xl : S1x16384.Idx → EReal)
    (fold : S16384x128.Idx → EReal) : S10240x128.Idx → EReal := fun i =>
  ∑ col : Fin 16384, (∑ y : Fin 128, hat (yl (ix2 0 y))
      (if h : (i 0).val % 256 < 128 then ln (ix2 ⟨(i 0).val / 256 * 128 + (i 0).val % 256, by have := (i 0).isLt; simp at this; omega⟩ 1)
        else ln (ix2 ⟨(i 0).val / 256 * 128 + ((i 0).val % 256 - 128), by have := (i 0).isLt; simp at this; omega⟩ 3)) * tj (ix2 y col))
    * hat (xl (ix2 0 col))
      (if h : (i 0).val % 256 < 128 then ln (ix2 ⟨(i 0).val / 256 * 128 + (i 0).val % 256, by have := (i 0).isLt; simp at this; omega⟩ 0)
        else ln (ix2 ⟨(i 0).val / 256 * 128 + ((i 0).val % 256 - 128), by have := (i 0).isLt; simp at this; omega⟩ 2))
    * fold (ix2 col (i 1))

theorem ix1_0 : ∀ t : Fin cfg1.N, win1_0.index t = ![t.val, 0] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![0, 0] := (by decide +kernel : ∀ t : Fin grid1.N, _)
theorem ix1_3 : ∀ t : Fin cfg1.N, win1_3.index t = ![0, 0] := (by decide +kernel : ∀ t : Fin grid1.N, _)
theorem ix1_4 : ∀ t : Fin cfg1.N, win1_4.index t = ![0, 0] := (by decide +kernel : ∀ t : Fin grid1.N, _)
theorem ix1_5 : ∀ t : Fin cfg1.N, win1_5.index t = ![t.val, 0] := (by decide +kernel : ∀ t : Fin grid1.N, _)

/-- The array the region leaves. -/
theorem final1_5 (c : Dev nD) :
    (dat1 V c).arrAt 5 cfg1.N = juncs (V c main_v11) (V c main_v30) (V c main_v8) (V c main_v34) (V c main_v20) := by
  refine (dat1 V c).arrAt_eq_of_covers 5 _ (by decide +kernel) fun t hf y => ?_
  blk_simp
  rw [after1_5]; frame_out
  obtain ⟨a, b, rfl⟩ : ∃ (a : Fin 256) (b : Fin 128), y = ix2 a b := ⟨y 0, y 1, eq_ix2 y⟩
  have hemb : (((View.whole main_v39).slice (win1_5.rect t)).emb (ix2 a b) 0).val = t.val * 256 + a.val := by
    blk_simp [ix1_5 t]
  refine (k1_pay1_apply _ _ _ _ _ a b).trans ?_
  unfold juncs jx jy
  blk_point [iblk1, ix1_0 t, ix1_1 t, ix1_2 t, ix1_3 t, ix1_4 t, ix1_5 t]

end Cert.Lines

end
-- ==== Proof.Region2.lean ====
/- The array the third region (the points along the lines) leaves, as a function of the arrays it finds. -/
module

public import proofs.«01_k».proof.Proof.Gen.KernelIdeal.Frame
public import proofs.«01_k».proof.Proof.Region0
public import Idealize.ShloMosaic.Lib.Pipeline.ValueKit

@[expose] public section

set_option maxRecDepth 16384

noncomputable section

namespace Cert.Lines

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- A coordinate of point `k` of line `L`: the end points' coordinates `p` and `q` mixed. -/
def mix (ln : S5120x4.Idx → EReal) (L : Fin 5120) (k : Fin 32) (p q : Fin 4) : EReal :=
  ln (ix2 L p) * tk k + ln (ix2 L q) * (1 - tk k)

/-- The values along the lines: row `32 L + k` is point `k` of line `L`. -/
def edges (ln : S5120x4.Idx → EReal) (yl : S1x128.Idx → EReal) (te : S128x1024.Idx → EReal) (xl : S1x1024.Idx → EReal)
    (fold : S1024x128.Idx → EReal) : S163840x128.Idx → EReal := fun i =>
  ∑ col : Fin 1024, (∑ y : Fin 128, hat (yl (ix2 0 y))
      (mix ln ⟨(i 0).val / 32, by have := (i 0).isLt; simp at this; omega⟩ ⟨(i 0).val % 32, by omega⟩ 1 3) * te (ix2 y col))
    * hat (xl (ix2 0 col))
      (mix ln ⟨(i 0).val / 32, by have := (i 0).isLt; simp at this; omega⟩ ⟨(i 0).val % 32, by omega⟩ 0 2)
    * fold (ix2 col (i 1))

theorem ix2_0_index : ∀ t : Fin cfg2.N, win2_0.index t = ![t.val, 0] := (by decide +kernel : ∀ t : Fin grid2.N, _)
theorem ix2_1_index : ∀ t : Fin cfg2.N, win2_1.index t = ![0, 0] := (by decide +kernel : ∀ t : Fin grid2.N, _)
theorem ix2_2_index : ∀ t : Fin cfg2.N, win2_2.index t = ![0, 0] := (by decide +kernel : ∀ t : Fin grid2.N, _)
theorem ix2_3_index : ∀ t : Fin cfg2.N, win2_3.index t = ![0, 0] := (by decide +kernel : ∀ t : Fin grid2.N, _)
theorem ix2_4_index : ∀ t : Fin cfg2.N, win2_4.index t = ![0, 0] := (by decide +kernel : ∀ t : Fin grid2.N, _)
theorem ix2_5_index : ∀ t : Fin cfg2.N, win2_5.index t = ![t.val, 0] := (by decide +kernel : ∀ t : Fin grid2.N, _)

/-- The array the region leaves. -/
theorem final2_5 (c : Dev nD) :
    (dat2 V c).arrAt 5 cfg2.N = edges (V c main_v11) (V c main_v30) (V c main_v10) (V c main_v38) (V c main_v28) := by
  refine (dat2 V c).arrAt_eq_of_covers 5 _ (by decide +kernel) fun t hf y => ?_
  blk_simp
  rw [after2_5]; frame_out
  obtain ⟨a, b, rfl⟩ : ∃ (a : Fin 4096) (b : Fin 128), y = ix2 a b := ⟨y 0, y 1, eq_ix2 y⟩
  have hemb : (((View.whole main_v40).slice (win2_5.rect t)).emb (ix2 a b) 0).val = t.val * 4096 + a.val := by
    blk_simp [ix2_5_index t]
  have hm : (⟨a.val % 32, by omega⟩ : Fin 32)
      = ⟨(((View.whole main_v40).slice (win2_5.rect t)).emb (ix2 a b) 0).val % 32, by omega⟩ := Fin.ext (by
    show a.val % 32 = _ % 32; rw [hemb]; omega)
  refine (k2_pay1_apply _ _ _ _ a b).trans ?_
  simp only [k2_pay4_apply, k2_pay5_apply]
  unfold edges mix
  rw [hm]
  blk_point [iblk2, ix2_0_index t, ix2_1_index t, ix2_2_index t, ix2_3_index t, ix2_4_index t, ix2_5_index t]

end Cert.Lines

end
-- ==== Proof.Region3.lean ====
/- The array the fourth region (the three layers and the head) leaves, as a function of the arrays it finds. -/
module

public import proofs.«01_k».proof.Proof.Gen.KernelIdeal.Frame
public import proofs.«01_k».proof.Proof.Region0
public import Idealize.ShloMosaic.Lib.Pipeline.ValueKit

@[expose] public section

set_option maxRecDepth 16384

noncomputable section

namespace Cert.Lines

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The positive part, element by element. -/
def relu {s : Shape} (x : s.Idx → EReal) : s.Idx → EReal := fun i => max (x i) 0

/-- Three layers, the first two cut off at zero, and a head. -/
def mlp {M A B C D N : ℕ} (x : (⟨2, ![M, A]⟩ : Shape).Idx → EReal) (w0 : (⟨2, ![A, B]⟩ : Shape).Idx → EReal)
    (b0 : (⟨2, ![1, B]⟩ : Shape).Idx → EReal) (w1 : (⟨2, ![B, C]⟩ : Shape).Idx → EReal)
    (b1 : (⟨2, ![1, C]⟩ : Shape).Idx → EReal) (w2 : (⟨2, ![C, D]⟩ : Shape).Idx → EReal)
    (b2 : (⟨2, ![1, D]⟩ : Shape).Idx → EReal) (hw : (⟨2, ![D, N]⟩ : Shape).Idx → EReal)
    (hb : (⟨2, ![1, N]⟩ : Shape).Idx → EReal) : (⟨2, ![M, N]⟩ : Shape).Idx → EReal :=
  mmb (mmb (relu (mmb (relu (mmb x w0 b0)) w1 b1)) w2 b2) hw hb

/-- The layers at an index, written out. -/
theorem mlp_apply {M A B C D N : ℕ} (x : (⟨2, ![M, A]⟩ : Shape).Idx → EReal) (w0 : (⟨2, ![A, B]⟩ : Shape).Idx → EReal)
    (b0 : (⟨2, ![1, B]⟩ : Shape).Idx → EReal) (w1 : (⟨2, ![B, C]⟩ : Shape).Idx → EReal)
    (b1 : (⟨2, ![1, C]⟩ : Shape).Idx → EReal) (w2 : (⟨2, ![C, D]⟩ : Shape).Idx → EReal)
    (b2 : (⟨2, ![1, D]⟩ : Shape).Idx → EReal) (hw : (⟨2, ![D, N]⟩ : Shape).Idx → EReal)
    (hb : (⟨2, ![1, N]⟩ : Shape).Idx → EReal) (i : (⟨2, ![M, N]⟩ : Shape).Idx) :
    mlp x w0 b0 w1 b1 w2 b2 hw hb i
      = (∑ l : Fin D, ((∑ k : Fin C, max ((∑ j : Fin B, max ((∑ a : Fin A, x (ix2 (i 0) a) * w0 (ix2 a j)) + b0 (ix2 0 j)) 0
          * w1 (ix2 j k)) + b1 (ix2 0 k)) 0 * w2 (ix2 k l)) + b2 (ix2 0 l)) * hw (ix2 l (i 1))) + hb (ix2 0 (i 1)) := rfl

theorem ix3_0_index : ∀ t : Fin cfg3.N, win3_0.index t = ![t.val, 0] := (by decide +kernel : ∀ t : Fin grid3.N, _)
theorem ix3_1_index : ∀ t : Fin cfg3.N, win3_1.index t = ![0, 0] := (by decide +kernel : ∀ t : Fin grid3.N, _)
theorem ix3_2_index : ∀ t : Fin cfg3.N, win3_2.index t = ![0, 0] := (by decide +kernel : ∀ t : Fin grid3.N, _)
theorem ix3_3_index : ∀ t : Fin cfg3.N, win3_3.index t = ![0, 0] := (by decide +kernel : ∀ t : Fin grid3.N, _)
theorem ix3_4_index : ∀ t : Fin cfg3.N, win3_4.index t = ![0, 0] := (by decide +kernel : ∀ t : Fin grid3.N, _)
theorem ix3_5_index : ∀ t : Fin cfg3.N, win3_5.index t = ![0, 0] := (by decide +kernel : ∀ t : Fin grid3.N, _)
theorem ix3_6_index : ∀ t : Fin cfg3.N, win3_6.index t = ![0, 0] := (by decide +kernel : ∀ t : Fin grid3.N, _)
theorem ix3_7_index : ∀ t : Fin cfg3.N, win3_7.index t = ![0, 0] := (by decide +kernel : ∀ t : Fin grid3.N, _)
theorem ix3_8_index : ∀ t : Fin cfg3.N, win3_8.index t = ![0, 0] := (by decide +kernel : ∀ t : Fin grid3.N, _)
theorem ix3_9_index : ∀ t : Fin cfg3.N, win3_9.index t = ![t.val, 0] := (by decide +kernel : ∀ t : Fin grid3.N, _)

/-- The array the region leaves. -/
theorem final3_9 (c : Dev nD) :
    (dat3 V c).arrAt 9 cfg3.N = mlp (V c main_v57) (V c main_v59) (V c main_v64) (V c main_v65) (V c main_v66) (V c main_v67)
      (V c main_v68) (V c main_v61) (V c main_v63) := by
  refine (dat3 V c).arrAt_eq_of_covers 9 _ (by decide +kernel) fun t hf y => ?_
  blk_simp
  rw [after3_9]; frame_out
  obtain ⟨a, b, rfl⟩ : ∃ (a : Fin 640) (b : Fin 128), y = ix2 a b := ⟨y 0, y 1, eq_ix2 y⟩
  refine (k3_pay1_apply _ _ _ _ _ _ _ _ _ a b).trans ?_
  rw [mlp_apply]
  blk_point [iblk3, ix3_0_index t, ix3_1_index t, ix3_2_index t, ix3_3_index t, ix3_4_index t, ix3_5_index t, ix3_6_index t, ix3_7_index t, ix3_8_index t, ix3_9_index t]

end Cert.Lines

end
-- ==== Proof.HostA.lean ====
/- What the host operations around the kernels' regions leave, read at one index. -/
module

public import proofs.«01_k».proof.Proof.Region0
public import Idealize.ShloMosaic.Lib.StableHlo.ReadAt

@[expose] public section

set_option maxRecDepth 16384

noncomputable section

namespace Cert.Lines

open Idealize.ShloMosaic Idealize.ShloMosaic.TcCoe Cert.KernelIdeal Cert.KernelIdeal.Gen

variable (m : (ℓ : Loc nD τ sig) → Buf (Elt Ideal) ℓ) (ρ : Dev nD → PrngReg)

/-- The features as a matrix: row `r` is the pixel, column `k` the channel. -/
theorem W3_v1 (c : Dev nD) (r : Fin 16384) (k : Fin 256) :
    (W3 m ρ c main_v1 : S16384x256.Idx → EReal) (ix2 r k)
      = (m ((c : Thread nD τ).loc main_arg0) : S256x128x128.Idx → EReal) (ix3 k ⟨r.val / 128, by omega⟩ ⟨r.val % 128, by omega⟩) := by
  rw [W3_of m ρ c main_v1 (by decide), W2_of m ρ c main_v1 (by decide)]
  after_reads_at

theorem W3_v2 (c : Dev nD) (k : Fin 256) (o : Fin 128) :
    (W3 m ρ c main_v2 : S256x128.Idx → EReal) (ix2 k o)
      = (m ((c : Thread nD τ).loc main_arg2) : S128x256.Idx → EReal) (ix2 o k) := by
  rw [W3_of m ρ c main_v2 (by decide), W2_of m ρ c main_v2 (by decide)]
  after_reads_at

theorem W3_v6 (c : Dev nD) (o : Fin 128) :
    (W3 m ρ c main_v6 : S1x128.Idx → EReal) (ix2 0 o)
      = (m ((c : Thread nD τ).loc main_arg3) : S128.Idx → EReal) (ix1 o) := by
  after_reads_at

/-- The edge weights as a matrix: the eight maps' weights, and zeros. -/
def wedge (a b : S4x256.Idx → EReal) (k : Fin 256) (o : Fin 128) : EReal :=
  if h : o.val < 4 then a (ix2 ⟨o.val, h⟩ k) else if h : o.val < 8 then b (ix2 ⟨o.val - 4, by omega⟩ k) else 0

/-- The word zero as a number. -/
theorem sitofp_zero : FloatOps.sitofp (F := Ideal) .f32 (0#32 : BitVec 32) = (0 : EReal) := by
  show (((((0#32 : BitVec 32).toInt : ℤ) : ℝ)) : EReal) = 0
  simp

theorem W3_v5 (c : Dev nD) (k : Fin 256) (o : Fin 128) :
    (W3 m ρ c main_v5 : S256x128.Idx → EReal) (ix2 k o)
      = wedge (m ((c : Thread nD τ).loc main_arg4)) (m ((c : Thread nD τ).loc main_arg6)) k o := by
  rw [W3_of m ρ c main_v5 (by decide)]
  after_reads_at
  unfold wedge
  split_ifs
  all_goals first | omega | exact sitofp_zero | rfl

end Cert.Lines

end
-- ==== Proof.HostB.lean ====
/- The tables of channel numbers and coordinates the host builds from counters, and the arrays between the first region
   and the others, read at one index. -/
module

public import proofs.«01_k».proof.Proof.HostA
public import Idealize.ShloMosaic.Lib.StableHlo.ReadAt
public import Idealize.ShloMosaic.Lib.WordCmp
public import Idealize.ShloMosaic.Lib.Routing.Words

@[expose] public section

set_option maxRecDepth 16384

noncomputable section

namespace Cert.Lines

open Idealize.ShloMosaic Idealize.ShloMosaic.TcCoe Cert.KernelIdeal Cert.KernelIdeal.Gen

variable (m : (ℓ : Loc nD τ sig) → Buf (Elt Ideal) ℓ) (ρ : Dev nD → PrngReg)

theorem slt_zero_ofNat {n : ℕ} (h : n < 2 ^ 31) : IntOp.cmpi .slt (BitVec.ofNat 32 n) 0#32 = 0#1 := by
  have : (BitVec.ofNat 32 n).toInt = (n : ℤ) := WordCmp.toInt_ofNat_of_lt h
  show BitVec.ofBool ((BitVec.ofNat 32 n).slt 0#32) = 0#1
  rw [BitVec.slt, this]
  have h0 : ¬ ((n : ℤ) < (0#32 : BitVec 32).toInt) := by simp
  rw [decide_eq_false h0]; rfl

/-- The host's remainder of a counter by a positive constant, as its lines spell it. -/
theorem rem_word {n d : ℕ} (hn : n < 2 ^ 31) (h0 : 0 < d) (hd : d < 2 ^ 31) (D : BitVec 32) (hD : D = BitVec.ofNat 32 d) :
    Scalar.select
      (IntOp.andi
        (IntOp.cmpi .ne
          (IntOp.cmpi .slt (IntOp.remsi .host (BitVec.ofNat 32 n) (Scalar.select (IntOp.cmpi .eq D 0#32) (1#32) D)) 0#32)
          (IntOp.cmpi .slt (Scalar.select (IntOp.cmpi .eq D 0#32) (1#32) D) 0#32))
        (IntOp.cmpi .ne (IntOp.remsi .host (BitVec.ofNat 32 n) (Scalar.select (IntOp.cmpi .eq D 0#32) (1#32) D)) 0#32))
      (IntOp.addi (IntOp.remsi .host (BitVec.ofNat 32 n) (Scalar.select (IntOp.cmpi .eq D 0#32) (1#32) D))
        (Scalar.select (IntOp.cmpi .eq D 0#32) (1#32) D))
      (IntOp.remsi .host (BitVec.ofNat 32 n) (Scalar.select (IntOp.cmpi .eq D 0#32) (1#32) D))
      = BitVec.ofNat 32 (n % d) := by
  subst hD
  have hne : (BitVec.ofNat 32 d == 0#32) = false := by
    rw [beq_eq_false_iff_ne]; intro e
    have := congrArg BitVec.toNat e
    rw [WordCmp.toNat_ofNat_of_lt (by omega)] at this; simp at this; omega
  have hs : Scalar.select (IntOp.cmpi .eq (BitVec.ofNat 32 d) 0#32) (1#32) (BitVec.ofNat 32 d) = BitVec.ofNat 32 d := by
    show Scalar.select (BitVec.ofBool (BitVec.ofNat 32 d == 0#32)) _ _ = _
    rw [hne]; rfl
  rw [hs, Routing.remsi_word .host hn h0 hd, slt_zero_ofNat hd,
    slt_zero_ofNat (lt_of_le_of_lt (Nat.mod_le n d) hn)]
  have : IntOp.andi (IntOp.cmpi .ne (0#1) (0#1)) (IntOp.cmpi .ne (BitVec.ofNat 32 (n % d)) 0#32) = 0#1 := by
    show 0#1 &&& _ = 0#1
    exact BitVec.zero_and
  rw [this]; rfl

/-- The host's quotient of a counter by a positive constant, as its lines spell it. -/
theorem quot_word {n d : ℕ} (hn : n < 2 ^ 31) (h0 : 0 < d) (hd : d < 2 ^ 31) (D : BitVec 32) (hD : D = BitVec.ofNat 32 d) :
    Scalar.select
      (IntOp.andi
        (IntOp.cmpi .ne
          (if BitVec.ofNat 32 n = 0 then (0 : BitVec 32) else if (BitVec.ofNat 32 n).msb = true then -1 else 1)
          (if D = 0 then 0 else if BitVec.msb D = true then -1 else 1))
        (IntOp.cmpi .ne (IntOp.remsi .host (BitVec.ofNat 32 n) D) 0#32))
      (IntOp.subi (IntOp.divsi .host (BitVec.ofNat 32 n) D) 1#32)
      (IntOp.divsi .host (BitVec.ofNat 32 n) D)
      = BitVec.ofNat 32 (n / d) := by
  subst hD
  rw [Routing.remsi_word .host hn h0 hd, Routing.divsi_word .host hn h0 hd]
  have hmsb : ∀ {a : ℕ}, a < 2 ^ 31 → (BitVec.ofNat 32 a).msb = false := by
    intro a ha
    rw [BitVec.msb_eq_decide, WordCmp.toNat_ofNat_of_lt (by omega)]
    exact decide_eq_false (by omega)
  have hD0 : ¬ BitVec.ofNat 32 d = 0 := by
    intro e
    have := congrArg BitVec.toNat e
    rw [WordCmp.toNat_ofNat_of_lt (by omega)] at this; simp at this; omega
  rw [hmsb hn, hmsb hd, if_neg hD0]
  by_cases hz : n = 0
  · subst hz
    have : IntOp.cmpi .ne (BitVec.ofNat 32 (0 % d)) 0#32 = 0#1 := by rw [Nat.zero_mod]; rfl
    rw [this]
    have : ∀ b : BitVec 1, IntOp.andi b 0#1 = 0#1 := fun b => BitVec.and_zero
    rw [this]; rfl
  · have hn0 : ¬ BitVec.ofNat 32 n = 0 := by
      intro e
      have := congrArg BitVec.toNat e
      rw [WordCmp.toNat_ofNat_of_lt (by omega)] at this; simp at this; omega
    rw [if_neg hn0]
    have : ∀ b : BitVec 1, IntOp.andi (IntOp.cmpi .ne (if false = true then (-1 : BitVec 32) else 1) (if false = true then -1 else 1)) b = 0#1 := by
      intro b; show 0#1 &&& b = 0#1; exact BitVec.zero_and
    rw [this]; rfl

theorem W8_v14 (c : Dev nD) (col : Fin 16384) :
    (W8 m ρ c main_v14 : S16384.Idx → BitVec 32) (ix1 col) = BitVec.ofNat 32 (col.val % 128) := by
  after_reads_at
  exact rem_word (by omega) (by norm_num : 0 < 128) (by norm_num) _ rfl

theorem W10_v22 (c : Dev nD) (col : Fin 1024) :
    (W10 m ρ c main_v22 : S1024.Idx → BitVec 32) (ix1 col) = BitVec.ofNat 32 (col.val % 8) := by
  after_reads_at
  exact rem_word (by omega) (by norm_num : 0 < 8) (by norm_num) _ rfl

theorem W12_v32 (c : Dev nD) (col : Fin 16384) :
    (W12 m ρ c main_v32 : S16384.Idx → BitVec 32) (ix1 col) = BitVec.ofNat 32 (col.val / 128) := by
  after_reads_at
  exact quot_word (by omega) (by norm_num : 0 < 128) (by norm_num) _ rfl

theorem W14_v36 (c : Dev nD) (col : Fin 1024) :
    (W14 m ρ c main_v36 : S1024.Idx → BitVec 32) (ix1 col) = BitVec.ofNat 32 (col.val / 8) := by
  after_reads_at
  exact quot_word (by omega) (by norm_num : 0 < 8) (by norm_num) _ rfl

theorem W15_v8 (c : Dev nD) (y : Fin 128) (col : Fin 16384) :
    (W15 m ρ c main_v8 : S128x16384.Idx → EReal) (ix2 y col)
      = (W4 m ρ c main_v7_0 : S16384x128.Idx → EReal) (ix2 ⟨y.val * 128 + col.val / 128, by omega⟩ ⟨col.val % 128, by omega⟩) := by
  rw [W15_of m ρ c main_v8 (by decide), W14_of m ρ c main_v8 (by decide), W13_of m ρ c main_v8 (by decide),
    W12_of m ρ c main_v8 (by decide), W11_of m ρ c main_v8 (by decide), W10_of m ρ c main_v8 (by decide),
    W9_of m ρ c main_v8 (by decide), W8_of m ρ c main_v8 (by decide), W7_of m ρ c main_v8 (by decide), W6_of m ρ c main_v8 (by decide)]
  after_reads_at

theorem W15_v10 (c : Dev nD) (y : Fin 128) (col : Fin 1024) :
    (W15 m ρ c main_v10 : S128x1024.Idx → EReal) (ix2 y col)
      = (W4 m ρ c main_v7_1 : S16384x128.Idx → EReal) (ix2 ⟨y.val * 128 + col.val / 8, by omega⟩ ⟨col.val % 8, by omega⟩) := by
  rw [W15_of m ρ c main_v10 (by decide), W14_of m ρ c main_v10 (by decide), W13_of m ρ c main_v10 (by decide),
    W12_of m ρ c main_v10 (by decide), W11_of m ρ c main_v10 (by decide), W10_of m ρ c main_v10 (by decide),
    W9_of m ρ c main_v10 (by decide), W8_of m ρ c main_v10 (by decide), W7_of m ρ c main_v10 (by decide), W6_of m ρ c main_v10 (by decide)]
  after_reads_at

/-- The table that picks out a remainder: one where the column's remainder is the row, zero elsewhere. -/
def sel (d : ℕ) (n o : ℕ) : EReal := if n % d = o then 1 else 0

theorem uitofp_eq {a b : ℕ} (ha : a < 2 ^ 31) (hb : b < 2 ^ 31) :
    FloatOps.uitofp (F := Ideal) .f32 (IntOp.cmpi .eq (BitVec.ofNat 32 a) (BitVec.ofNat 32 b)) = if a = b then (1 : EReal) else 0 := by
  have e : (BitVec.ofNat 32 a == BitVec.ofNat 32 b) = decide (a = b) := by
    rw [Bool.eq_iff_iff, beq_iff_eq, decide_eq_true_iff]
    refine ⟨fun h => ?_, fun h => by rw [h]⟩
    have := congrArg BitVec.toNat h
    rwa [WordCmp.toNat_ofNat_of_lt (by omega), WordCmp.toNat_ofNat_of_lt (by omega)] at this
  show ((((BitVec.ofBool (BitVec.ofNat 32 a == BitVec.ofNat 32 b)).toNat : ℝ)) : EReal) = _
  rw [e]
  by_cases h : a = b
  · rw [decide_eq_true h, if_pos h]; simp
  · rw [decide_eq_false h, if_neg h]; simp

theorem sitofp_ofNat {a : ℕ} (ha : a < 2 ^ 31) : FloatOps.sitofp (F := Ideal) .f32 (BitVec.ofNat 32 a) = ((a : ℝ) : EReal) := by
  have h : (BitVec.ofNat 32 a).toInt = (a : ℤ) := WordCmp.toInt_ofNat_of_lt ha
  show ((((BitVec.ofNat 32 a).toInt : ℤ) : ℝ) : EReal) = _
  rw [h]; rfl

theorem W7_v12 (c : Dev nD) (o : Fin 128) : (W7 m ρ c main_v12 : S128.Idx → BitVec 32) (ix1 o) = BitVec.ofNat 32 o.val := by
  after_reads_at

theorem W15_v20 (c : Dev nD) (col : Fin 16384) (o : Fin 128) :
    (W15 m ρ c main_v20 : S16384x128.Idx → EReal) (ix2 col o) = sel 128 col.val o.val := by
  have e : (W9 m ρ c main_v20 : S16384x128.Idx → EReal) (ix2 col o)
      = FloatOps.uitofp (F := Ideal) .f32 (IntOp.cmpi .eq ((W8 m ρ c main_v14 : S16384.Idx → BitVec 32) (ix1 col))
          ((W8 m ρ c main_v12 : S128.Idx → BitVec 32) (ix1 o))) := by
    rw [show W9 m ρ c = StableHlo.after hostOps1_4 (W8 m ρ c) from rfl]
    generalize W8 m ρ c = V
    after_reads_at
  rw [W15_of m ρ c main_v20 (by decide), W14_of m ρ c main_v20 (by decide), W13_of m ρ c main_v20 (by decide), W12_of m ρ c main_v20 (by decide), W11_of m ρ c main_v20 (by decide), W10_of m ρ c main_v20 (by decide), e, W8_v14, W8_of m ρ c main_v12 (by decide), W7_v12, uitofp_eq (by omega) (by omega)]
  rfl

theorem W15_v28 (c : Dev nD) (col : Fin 1024) (o : Fin 128) :
    (W15 m ρ c main_v28 : S1024x128.Idx → EReal) (ix2 col o) = sel 8 col.val o.val := by
  have e : (W11 m ρ c main_v28 : S1024x128.Idx → EReal) (ix2 col o)
      = FloatOps.uitofp (F := Ideal) .f32 (IntOp.cmpi .eq ((W10 m ρ c main_v22 : S1024.Idx → BitVec 32) (ix1 col))
          ((W10 m ρ c main_v12 : S128.Idx → BitVec 32) (ix1 o))) := by
    rw [show W11 m ρ c = StableHlo.after hostOps1_6 (W10 m ρ c) from rfl]
    generalize W10 m ρ c = V
    after_reads_at
  rw [W15_of m ρ c main_v28 (by decide), W14_of m ρ c main_v28 (by decide), W13_of m ρ c main_v28 (by decide), W12_of m ρ c main_v28 (by decide), e, W10_v22, W10_of m ρ c main_v12 (by decide), W9_of m ρ c main_v12 (by decide), W8_of m ρ c main_v12 (by decide), W7_v12, uitofp_eq (by omega) (by omega)]
  rfl

theorem W15_v30 (c : Dev nD) (y : Fin 128) :
    (W15 m ρ c main_v30 : S1x128.Idx → EReal) (ix2 0 y) = ((y.val : ℝ) : EReal) := by
  have e : (W11 m ρ c main_v30 : S1x128.Idx → EReal) (ix2 0 y)
      = FloatOps.sitofp (F := Ideal) .f32 ((W10 m ρ c main_v12 : S128.Idx → BitVec 32) (ix1 y)) := by
    rw [show W11 m ρ c = StableHlo.after hostOps1_6 (W10 m ρ c) from rfl]
    generalize W10 m ρ c = V
    after_reads_at
  rw [W15_of m ρ c main_v30 (by decide), W14_of m ρ c main_v30 (by decide), W13_of m ρ c main_v30 (by decide), W12_of m ρ c main_v30 (by decide), e, W10_of m ρ c main_v12 (by decide), W9_of m ρ c main_v12 (by decide), W8_of m ρ c main_v12 (by decide), W7_v12, sitofp_ofNat (by omega)]

theorem W15_v34 (c : Dev nD) (col : Fin 16384) :
    (W15 m ρ c main_v34 : S1x16384.Idx → EReal) (ix2 0 col) = (((col.val / 128 : ℕ) : ℝ) : EReal) := by
  have e : (W13 m ρ c main_v34 : S1x16384.Idx → EReal) (ix2 0 col)
      = FloatOps.sitofp (F := Ideal) .f32 ((W12 m ρ c main_v32 : S16384.Idx → BitVec 32) (ix1 col)) := by
    rw [show W13 m ρ c = StableHlo.after hostOps1_8 (W12 m ρ c) from rfl]
    generalize W12 m ρ c = V
    after_reads_at
  rw [W15_of m ρ c main_v34 (by decide), W14_of m ρ c main_v34 (by decide), e, W12_v32, sitofp_ofNat (by omega)]

theorem W15_v38 (c : Dev nD) (col : Fin 1024) :
    (W15 m ρ c main_v38 : S1x1024.Idx → EReal) (ix2 0 col) = (((col.val / 8 : ℕ) : ℝ) : EReal) := by
  have e : (W15 m ρ c main_v38 : S1x1024.Idx → EReal) (ix2 0 col)
      = FloatOps.sitofp (F := Ideal) .f32 ((W14 m ρ c main_v36 : S1024.Idx → BitVec 32) (ix1 col)) := by
    rw [show W15 m ρ c = StableHlo.after hostOps1_10 (W14 m ρ c) from rfl]
    generalize W14 m ρ c = V
    after_reads_at
  rw [e, W14_v36, sitofp_ofNat (by omega)]

/-- The lines, with lines of zeros behind. -/
def padLines (l : S5000x4.Idx → EReal) (L : Fin 5120) (p : Fin 4) : EReal :=
  if h : L.val < 5000 then l (ix2 ⟨L.val, h⟩ p) else 0

theorem W15_v11 (c : Dev nD) (L : Fin 5120) (p : Fin 4) :
    (W15 m ρ c main_v11 : S5120x4.Idx → EReal) (ix2 L p) = padLines (m ((c : Thread nD τ).loc main_arg1)) L p := by
  have e : (W6 m ρ c main_v11 : S5120x4.Idx → EReal) (ix2 L p)
      = padLines (W5 m ρ c main_arg1 : S5000x4.Idx → EReal) L p := by
    have h0 : ∀ V : Valuation τ sig (Elt Ideal), (∀ i, (V main_c_0 : S_.Idx → BitVec 32) i = 0#32) →
        (StableHlo.after hostOps1_1 V main_v11 : S5120x4.Idx → EReal) (ix2 L p) = padLines (V main_arg1 : S5000x4.Idx → EReal) L p := by
      intro V hV
      after_reads_at
      unfold padLines
      split_ifs
      · rfl
      · refine Eq.trans ?_ sitofp_zero
        exact congrArg (FloatOps.sitofp (F := Ideal) .f32) (hV _)
    exact h0 _ (fun i => by after_reads_at)
  rw [W15_of m ρ c main_v11 (by decide), W14_of m ρ c main_v11 (by decide), W13_of m ρ c main_v11 (by decide), W12_of m ρ c main_v11 (by decide), W11_of m ρ c main_v11 (by decide), W10_of m ρ c main_v11 (by decide), W9_of m ρ c main_v11 (by decide), W8_of m ρ c main_v11 (by decide), W7_of m ρ c main_v11 (by decide), e, W5_of m ρ c main_arg1 (by decide)]
  rw [W4_args m ρ c main_arg1 (by decide)]

end Cert.Lines

end
-- ==== Proof.HostC.lean ====
/- The rows the last region multiplies, its weights, and the result, read at one index. -/
module

public import proofs.«01_k».proof.Proof.HostB
public import Idealize.ShloMosaic.Lib.StableHlo.ReadAt
public import Idealize.ShloMosaic.Lib.WordCmp
public import Idealize.ShloMosaic.Lib.Routing.Words

@[expose] public section

set_option maxRecDepth 16384

noncomputable section

namespace Cert.Lines

open Idealize.ShloMosaic Idealize.ShloMosaic.TcCoe Cert.KernelIdeal Cert.KernelIdeal.Gen

variable (m : (ℓ : Loc nD τ sig) → Buf (Elt Ideal) ℓ) (ρ : Dev nD → PrngReg)

/-- The row of features of a line: its two end points' values, then its thirty inner points' values of either kind,
    and zeros behind. -/
def xrow (j : S10240x128.Idx → EReal) (e : S163840x128.Idx → EReal) (n : Fin 5120) (i : Fin 512) : EReal :=
  if hn : n.val < 5000 then
    if h0 : i.val < 128 then j (ix2 ⟨n.val / 128 * 256 + n.val % 128, by omega⟩ ⟨i.val, h0⟩)
    else if h1 : i.val < 256 then j (ix2 ⟨n.val / 128 * 256 + 128 + n.val % 128, by omega⟩ ⟨i.val - 128, by omega⟩)
    else if h2 : i.val < 376 then e (ix2 ⟨n.val * 32 + (1 + (i.val - 256) / 4), by omega⟩ ⟨(i.val - 256) % 4, by omega⟩)
    else if h3 : i.val < 496 then e (ix2 ⟨n.val * 32 + (1 + (i.val - 376) / 4), by omega⟩ ⟨4 + (i.val - 376) % 4, by omega⟩)
    else 0
  else 0

theorem cast_blocks (x : S10240x128.Idx → EReal) (q : Fin 40) (h : Fin 2) (r a : Fin 128) :
    shapeCast S40x2x128x128 x shapeCasts_S10240x128_S40x2x128x128 (ix4 q h r a)
      = x (ix2 ⟨q.val * 256 + h.val * 128 + r.val, by omega⟩ a) := by
  pointwise

theorem slice_half0 (x : S40x2x128x128.Idx → EReal) (q : Fin 40) (r a : Fin 128) :
    (extractStridedSlice S40x1x128x128 ![0, 0, 0, 0] x slices_S40x2x128x128_S40x1x128x128_0_0_0_0) (ix4 q 0 r a) = x (ix4 q 0 r a) := by
  pointwise

theorem slice_half1 (x : S40x2x128x128.Idx → EReal) (q : Fin 40) (r a : Fin 128) :
    (extractStridedSlice S40x1x128x128 ![0, 1, 0, 0] x slices_S40x2x128x128_S40x1x128x128_0_1_0_0) (ix4 q 0 r a) = x (ix4 q 1 r a) := by
  pointwise

theorem cast_drop (x : S40x1x128x128.Idx → EReal) (q : Fin 40) (r a : Fin 128) :
    shapeCast S40x128x128 x shapeCasts_S40x1x128x128_S40x128x128 (ix3 q r a) = x (ix4 q 0 r a) := by
  pointwise

theorem cast_lines (x : S40x128x128.Idx → EReal) (m : Fin 5120) (a : Fin 128) :
    shapeCast S5120x128 x shapeCasts_S40x128x128_S5120x128 (ix2 m a) = x (ix3 ⟨m.val / 128, by omega⟩ ⟨m.val % 128, by omega⟩ a) := by
  pointwise

theorem slice_lines (x : S5120x128.Idx → EReal) (n : Fin 5000) (a : Fin 128) :
    (extractStridedSlice S5000x128 ![0, 0] x slices_S5120x128_S5000x128_0_0) (ix2 n a) = x (ix2 ⟨n.val, by omega⟩ a) := by
  pointwise

/-- The first end points' values, taken out of the blocks. -/
theorem half0_apply (x : S10240x128.Idx → EReal) (n : Fin 5000) (a : Fin 128) :
    (extractStridedSlice S5000x128 ![0, 0] (shapeCast S5120x128 (shapeCast S40x128x128 (extractStridedSlice S40x1x128x128 ![0, 0, 0, 0]
      (shapeCast S40x2x128x128 x shapeCasts_S10240x128_S40x2x128x128) slices_S40x2x128x128_S40x1x128x128_0_0_0_0)
      shapeCasts_S40x1x128x128_S40x128x128) shapeCasts_S40x128x128_S5120x128) slices_S5120x128_S5000x128_0_0) (ix2 n a)
      = x (ix2 ⟨n.val / 128 * 256 + n.val % 128, by omega⟩ a) := by
  rw [slice_lines, cast_lines, cast_drop, slice_half0, cast_blocks]
  exact congrArg x (congrArg (ix2 · a) (Fin.ext (by show n.val / 128 * 256 + 0 * 128 + n.val % 128 = n.val / 128 * 256 + n.val % 128; omega)))

/-- The second end points' values, taken out of the blocks. -/
theorem half1_apply (x : S10240x128.Idx → EReal) (n : Fin 5000) (a : Fin 128) :
    (extractStridedSlice S5000x128 ![0, 0] (shapeCast S5120x128 (shapeCast S40x128x128 (extractStridedSlice S40x1x128x128 ![0, 1, 0, 0]
      (shapeCast S40x2x128x128 x shapeCasts_S10240x128_S40x2x128x128) slices_S40x2x128x128_S40x1x128x128_0_1_0_0)
      shapeCasts_S40x1x128x128_S40x128x128) shapeCasts_S40x128x128_S5120x128) slices_S5120x128_S5000x128_0_0) (ix2 n a)
      = x (ix2 ⟨n.val / 128 * 256 + 128 + n.val % 128, by omega⟩ a) := by
  rw [slice_lines, cast_lines, cast_drop, slice_half1, cast_blocks]
  exact congrArg x (congrArg (ix2 · a) (Fin.ext (by show n.val / 128 * 256 + 1 * 128 + n.val % 128 = n.val / 128 * 256 + 128 + n.val % 128; omega)))

theorem after_v45 (V : Valuation τ sig (Elt Ideal)) (n : Fin 5000) (a : Fin 128) :
    (StableHlo.after hostOps3 V main_v45 : S5000x128.Idx → EReal) (ix2 n a) = (V main_v39 : S10240x128.Idx → EReal) (ix2 ⟨n.val / 128 * 256 + n.val % 128, by omega⟩ a) := by
  after_reads_simp
  exact half0_apply _ n a

theorem after_v49 (V : Valuation τ sig (Elt Ideal)) (n : Fin 5000) (a : Fin 128) :
    (StableHlo.after hostOps3 V main_v49 : S5000x128.Idx → EReal) (ix2 n a) = (V main_v39 : S10240x128.Idx → EReal) (ix2 ⟨n.val / 128 * 256 + 128 + n.val % 128, by omega⟩ a) := by
  after_reads_simp
  exact half1_apply _ n a

theorem after_v53 (V : Valuation τ sig (Elt Ideal)) (n : Fin 5000) (a : Fin 120) :
    (StableHlo.after hostOps3 V main_v53 : S5000x120.Idx → EReal) (ix2 n a) = (V main_v40 : S163840x128.Idx → EReal) (ix2 ⟨n.val * 32 + (1 + a.val / 4), by omega⟩ ⟨a.val % 4, by omega⟩) := by
  after_reads_at

theorem after_v55 (V : Valuation τ sig (Elt Ideal)) (n : Fin 5000) (a : Fin 120) :
    (StableHlo.after hostOps3 V main_v55 : S5000x120.Idx → EReal) (ix2 n a) = (V main_v40 : S163840x128.Idx → EReal) (ix2 ⟨n.val * 32 + (1 + a.val / 4), by omega⟩ ⟨4 + a.val % 4, by omega⟩) := by
  after_reads_at

theorem after_v56 (V : Valuation τ sig (Elt Ideal)) (n : Fin 5000) (i : Fin 496) :
    (StableHlo.after hostOps3 V main_v56 : S5000x496.Idx → EReal) (ix2 n i)
      = xrow (V main_v39) (V main_v40) ⟨n.val, by omega⟩ ⟨i.val, by omega⟩ := by
  after_reads_at
  unfold xrow
  dsimp only
  rw [dif_pos n.isLt]
  by_cases h0 : i.val < 128
  · rw [dif_pos h0, dif_pos h0]; exact after_v45 V n _
  rw [dif_neg h0, dif_neg h0]
  by_cases h1 : i.val < 256
  · rw [dif_pos (by omega), dif_pos h1]; exact after_v49 V n _
  rw [dif_neg (by omega), dif_neg h1]
  by_cases h2 : i.val < 376
  · rw [dif_pos (by omega), dif_pos h2]; exact after_v53 V n _
  rw [dif_neg (by omega), dif_neg h2, dif_pos i.isLt]
  exact after_v55 V n _

theorem W24_v57 (c : Dev nD) (n : Fin 5120) (i : Fin 512) :
    (W24 m ρ c main_v57 : S5120x512.Idx → EReal) (ix2 n i)
      = xrow (W17 m ρ c main_v39) (W17 m ρ c main_v40) n i := by
  have h0 : ∀ V : Valuation τ sig (Elt Ideal), (∀ i, (V main_c_5 : S_.Idx → BitVec 32) i = 0#32) →
      (StableHlo.after hostOps3_1 V main_v57 : S5120x512.Idx → EReal) (ix2 n i)
        = if h : n.val < 5000 ∧ i.val < 496 then (V main_v56 : S5000x496.Idx → EReal) (ix2 ⟨n.val, h.1⟩ ⟨i.val, h.2⟩) else (0 : EReal) := by
    intro V hV
    after_reads_at
    split_ifs
    · rfl
    · refine Eq.trans ?_ sitofp_zero
      exact congrArg (FloatOps.sitofp (F := Ideal) .f32) (hV _)
  rw [W24_of m ρ c main_v57 (by decide), W23_of m ρ c main_v57 (by decide), W22_of m ρ c main_v57 (by decide), W21_of m ρ c main_v57 (by decide), W20_of m ρ c main_v57 (by decide)]
  refine (h0 _ (fun i => by after_reads_at)).trans ?_
  split_ifs with h
  · exact after_v56 _ _ _
  · unfold xrow
    split_ifs
    all_goals first | rfl | omega

theorem W24_v59 (c : Dev nD) (i : Fin 512) (j : Fin 1024) :
    (W24 m ρ c main_v59 : S512x1024.Idx → EReal) (ix2 i j)
      = if h : i.val < 496 then (m ((c : Thread nD τ).loc main_arg8) : S1024x496.Idx → EReal) (ix2 j ⟨i.val, h⟩) else (0 : EReal) := by
  have h0 : ∀ V : Valuation τ sig (Elt Ideal), (∀ i, (V main_c_6 : S_.Idx → BitVec 32) i = 0#32) →
      (StableHlo.after hostOps3_3 V main_v59 : S512x1024.Idx → EReal) (ix2 i j)
        = if h : i.val < 496 then (V main_v58 : S496x1024.Idx → EReal) (ix2 ⟨i.val, h⟩ j) else (0 : EReal) := by
    intro V hV
    after_reads_at
    split_ifs
    · rfl
    · refine Eq.trans ?_ sitofp_zero
      exact congrArg (FloatOps.sitofp (F := Ideal) .f32) (hV _)
  have h1 : ∀ (V : Valuation τ sig (Elt Ideal)) (a : Fin 496), (StableHlo.after hostOps3_2 V main_v58 : S496x1024.Idx → EReal) (ix2 a j)
        = (V main_arg8 : S1024x496.Idx → EReal) (ix2 j a) := by
    intro V a
    after_reads_at
  rw [W24_of m ρ c main_v59 (by decide), W23_of m ρ c main_v59 (by decide), W22_of m ρ c main_v59 (by decide)]
  refine (h0 _ (fun i => by after_reads_at)).trans ?_
  split_ifs with h
  · refine (h1 _ _).trans ?_
    rw [W19_of m ρ c main_arg8 (by decide), W18_of m ρ c main_arg8 (by decide), W17_args m ρ c main_arg8 (by decide)]
  · rfl

theorem W24_v61 (c : Dev nD) (l : Fin 1024) :
    (W24 m ρ c main_v61 : S1024x128.Idx → EReal) (ix2 l 0)
      = (m ((c : Thread nD τ).loc main_arg14) : S1x1024.Idx → EReal) (ix2 0 l) := by
  have h0 : ∀ V : Valuation τ sig (Elt Ideal),
      (StableHlo.after hostOps3_5 V main_v61 : S1024x128.Idx → EReal) (ix2 l 0) = (V main_v60 : S1024x1.Idx → EReal) (ix2 l 0) := by
    intro V
    after_reads_at
  have h1 : ∀ V : Valuation τ sig (Elt Ideal), (StableHlo.after hostOps3_4 V main_v60 : S1024x1.Idx → EReal) (ix2 l 0)
        = (V main_arg14 : S1x1024.Idx → EReal) (ix2 0 l) := by
    intro V
    after_reads_at
  rw [W24_of m ρ c main_v61 (by decide)]
  refine (h0 _).trans ((h1 _).trans ?_)
  rw [W21_of m ρ c main_arg14 (by decide), W20_of m ρ c main_arg14 (by decide), W19_of m ρ c main_arg14 (by decide), W18_of m ρ c main_arg14 (by decide), W17_args m ρ c main_arg14 (by decide)]

theorem W24_v63 (c : Dev nD) (o : Fin 128) :
    (W24 m ρ c main_v63 : S1x128.Idx → EReal) (ix2 0 o)
      = (m ((c : Thread nD τ).loc main_arg15) : S1.Idx → EReal) (ix1 0) := by
  have h0 : ∀ V : Valuation τ sig (Elt Ideal), (StableHlo.after hostOps3_6 V main_v63 : S1x128.Idx → EReal) (ix2 0 o)
      = (V main_arg15 : S1.Idx → EReal) (ix1 0) := by
    intro V
    after_reads_at
  refine (h0 _).trans ?_
  rw [W23_args m ρ c main_arg15 (by decide)]

theorem W24_v64 (c : Dev nD) (j : Fin 1024) :
    (W24 m ρ c main_v64 : S1x1024.Idx → EReal) (ix2 0 j)
      = (m ((c : Thread nD τ).loc main_arg9) : S1024.Idx → EReal) (ix1 j) := by
  have h0 : ∀ V : Valuation τ sig (Elt Ideal), (StableHlo.after hostOps3_6 V main_v64 : S1x1024.Idx → EReal) (ix2 0 j)
      = (V main_arg9 : S1024.Idx → EReal) (ix1 j) := by
    intro V
    after_reads_at
  refine (h0 _).trans ?_
  rw [W23_args m ρ c main_arg9 (by decide)]

theorem W24_v65 (c : Dev nD) (j k : Fin 1024) :
    (W24 m ρ c main_v65 : S1024x1024.Idx → EReal) (ix2 j k)
      = (m ((c : Thread nD τ).loc main_arg10) : S1024x1024.Idx → EReal) (ix2 k j) := by
  have h0 : ∀ V : Valuation τ sig (Elt Ideal), (StableHlo.after hostOps3_6 V main_v65 : S1024x1024.Idx → EReal) (ix2 j k)
      = (V main_arg10 : S1024x1024.Idx → EReal) (ix2 k j) := by
    intro V
    after_reads_at
  refine (h0 _).trans ?_
  rw [W23_args m ρ c main_arg10 (by decide)]

theorem W24_v66 (c : Dev nD) (j : Fin 1024) :
    (W24 m ρ c main_v66 : S1x1024.Idx → EReal) (ix2 0 j)
      = (m ((c : Thread nD τ).loc main_arg11) : S1024.Idx → EReal) (ix1 j) := by
  have h0 : ∀ V : Valuation τ sig (Elt Ideal), (StableHlo.after hostOps3_6 V main_v66 : S1x1024.Idx → EReal) (ix2 0 j)
      = (V main_arg11 : S1024.Idx → EReal) (ix1 j) := by
    intro V
    after_reads_at
  refine (h0 _).trans ?_
  rw [W23_args m ρ c main_arg11 (by decide)]

theorem W24_v67 (c : Dev nD) (j k : Fin 1024) :
    (W24 m ρ c main_v67 : S1024x1024.Idx → EReal) (ix2 j k)
      = (m ((c : Thread nD τ).loc main_arg12) : S1024x1024.Idx → EReal) (ix2 k j) := by
  have h0 : ∀ V : Valuation τ sig (Elt Ideal), (StableHlo.after hostOps3_6 V main_v67 : S1024x1024.Idx → EReal) (ix2 j k)
      = (V main_arg12 : S1024x1024.Idx → EReal) (ix2 k j) := by
    intro V
    after_reads_at
  refine (h0 _).trans ?_
  rw [W23_args m ρ c main_arg12 (by decide)]

theorem W24_v68 (c : Dev nD) (j : Fin 1024) :
    (W24 m ρ c main_v68 : S1x1024.Idx → EReal) (ix2 0 j)
      = (m ((c : Thread nD τ).loc main_arg13) : S1024.Idx → EReal) (ix1 j) := by
  have h0 : ∀ V : Valuation τ sig (Elt Ideal), (StableHlo.after hostOps3_6 V main_v68 : S1x1024.Idx → EReal) (ix2 0 j)
      = (V main_arg13 : S1024.Idx → EReal) (ix1 j) := by
    intro V
    after_reads_at
  refine (h0 _).trans ?_
  rw [W23_args m ρ c main_arg13 (by decide)]

/-- The result is the first column of the last region's rows. -/
theorem W26_v71 (c : Dev nD) (n : Fin 5000) :
    (W26 m ρ c main_v71 : S5000.Idx → EReal) (ix1 n)
      = (W25 m ρ c main_v69 : S5120x128.Idx → EReal) (ix2 ⟨n.val, by omega⟩ 0) := by
  after_reads_at

end Cert.Lines

end
-- ==== Proof.KernelValue.lean ====
/- The kernel's result as a function of its arguments. -/
module

public import proofs.«01_k».proof.Proof.Spec
public import proofs.«01_k».proof.Proof.Region1
public import proofs.«01_k».proof.Proof.Region2
public import proofs.«01_k».proof.Proof.Region3
public import proofs.«01_k».proof.Proof.HostC

@[expose] public section

set_option maxRecDepth 16384

noncomputable section

namespace Cert.Lines

open Idealize.ShloMosaic Idealize.ShloMosaic.TcCoe Cert.KernelIdeal Cert.KernelIdeal.Gen

/-- A sum over columns, each times the table that picks out a remainder, is the sum over the columns with that remainder. -/
theorem fold_sum {N : ℕ} (D : ℕ) (hN : 128 * D = N) (A : Fin N → EReal) (o : ℕ) (ho : o < D) :
    (∑ col : Fin N, A col * sel D col.val o) = ∑ x : Fin 128, A ⟨x.val * D + o, by
      have := x.isLt; subst hN
      calc x.val * D + o < x.val * D + D := by omega
        _ = (x.val + 1) * D := by rw [Nat.add_mul, Nat.one_mul]
        _ ≤ 128 * D := Nat.mul_le_mul_right _ (by omega)⟩ := by
  rw [Fin.sum_univ_tiles 128 D hN]
  refine Finset.sum_congr rfl fun x _ => ?_
  have hm : ∀ t, t < D → (x.val * D + t) % D = t := fun t ht => by
    rw [Nat.add_comm, Nat.add_mul_mod_self_right, Nat.mod_eq_of_lt ht]
  rw [Finset.sum_eq_single (⟨o, ho⟩ : Fin D)]
  · unfold sel
    rw [if_pos (hm o ho), mul_one]
  · intro t _ ht
    unfold sel
    rw [if_neg (fun e => ht (Fin.ext (by rw [← hm t.val t.isLt]; exact e))), mul_zero]
  · intro h; exact absurd (Finset.mem_univ _) h

/-- A product with a bias at one index. -/
theorem mmb_at {M K N : ℕ} (x : (⟨2, ![M, K]⟩ : Shape).Idx → EReal) (w : (⟨2, ![K, N]⟩ : Shape).Idx → EReal)
    (b : (⟨2, ![1, N]⟩ : Shape).Idx → EReal) (r : Fin M) (o : Fin N) :
    mmb x w b (ix2 r o) = (∑ k : Fin K, x (ix2 r k) * w (ix2 k o)) + b (ix2 0 o) := rfl

/-- A product at one index. -/
theorem mm_at {M K N : ℕ} (x : (⟨2, ![M, K]⟩ : Shape).Idx → EReal) (w : (⟨2, ![K, N]⟩ : Shape).Idx → EReal)
    (r : Fin M) (o : Fin N) : mm x w (ix2 r o) = ∑ k : Fin K, x (ix2 r k) * w (ix2 k o) := rfl

/-- The eight edge maps over the joined weights. -/
def cmap8 (F : S256x128x128.Idx → EReal) (a b : S4x256.Idx → EReal) (o y x : Fin 128) : EReal :=
  ∑ k : Fin 256, F (ix3 k y x) * wedge a b k o

/-- The padded layers at one row are the plain ones: the sixteen columns behind meet rows of zeros. -/
theorem mlp_net (x : S5120x512.Idx → EReal) (w0 : S512x1024.Idx → EReal) (b0 : S1x1024.Idx → EReal) (w1 : S1024x1024.Idx → EReal)
    (b1 : S1x1024.Idx → EReal) (w2 : S1024x1024.Idx → EReal) (b2 : S1x1024.Idx → EReal) (hw : S1024x128.Idx → EReal)
    (hb : S1x128.Idx → EReal) (X : Fin 496 → EReal) (v0 : S1024x496.Idx → EReal) (c0 : S1024.Idx → EReal)
    (v1 : S1024x1024.Idx → EReal) (c1 : S1024.Idx → EReal) (v2 : S1024x1024.Idx → EReal) (c2 : S1024.Idx → EReal)
    (vh : S1x1024.Idx → EReal) (ch : S1.Idx → EReal) (n : Fin 5120)
    (hx : ∀ i : Fin 496, x (ix2 n ⟨i.val, by omega⟩) = X i)
    (h0 : ∀ (i : Fin 512) (j : Fin 1024), w0 (ix2 i j) = if h : i.val < 496 then v0 (ix2 j ⟨i.val, h⟩) else 0)
    (g0 : ∀ j, b0 (ix2 0 j) = c0 (ix1 j)) (h1 : ∀ j k, w1 (ix2 j k) = v1 (ix2 k j)) (g1 : ∀ j, b1 (ix2 0 j) = c1 (ix1 j))
    (h2 : ∀ j k, w2 (ix2 j k) = v2 (ix2 k j)) (g2 : ∀ j, b2 (ix2 0 j) = c2 (ix1 j))
    (hh : ∀ l, hw (ix2 l 0) = vh (ix2 0 l)) (gh : hb (ix2 0 0) = ch (ix1 0)) :
    mlp x w0 b0 w1 b1 w2 b2 hw hb (ix2 n 0) = net X v0 c0 v1 c1 v2 c2 vh ch := by
  have hr : ∀ j : Fin 1024, (∑ i : Fin 512, x (ix2 n i) * w0 (ix2 i j)) = ∑ i : Fin 496, X i * v0 (ix2 j i) := fun j => by
    rw [Fin.sum_univ_two_halves 496 16 rfl]
    rw [Finset.sum_eq_zero (s := Finset.univ (α := Fin 16)), add_zero]
    · refine Finset.sum_congr rfl fun i _ => ?_
      rw [h0, hx, dif_pos i.isLt]
    · intro k _
      rw [h0, dif_neg (by show ¬ 496 + k.val < 496; omega), mul_zero]
  refine (show mlp x w0 b0 w1 b1 w2 b2 hw hb (ix2 n 0)
      = (∑ l : Fin 1024, ((∑ k : Fin 1024, max ((∑ j : Fin 1024, max ((∑ a : Fin 512, x (ix2 n a) * w0 (ix2 a j)) + b0 (ix2 0 j)) 0
          * w1 (ix2 j k)) + b1 (ix2 0 k)) 0 * w2 (ix2 k l)) + b2 (ix2 0 l)) * hw (ix2 l 0)) + hb (ix2 0 0) from rfl).trans ?_
  unfold net
  simp only [hr, g0, h1, g1, h2, g2, hh, gh]

section Pure

variable (ln : S5120x4.Idx → EReal) (yl : S1x128.Idx → EReal)
  (hyl : ∀ y : Fin 128, yl (ix2 0 y) = (((y.val : ℕ) : ℝ) : EReal))

include hyl in
/-- A row of the first half of a junction block: the maps at the line's first end point. -/
theorem juncs_first (tj : S128x16384.Idx → EReal) (xl : S1x16384.Idx → EReal) (fold : S16384x128.Idx → EReal)
    (hxl : ∀ col : Fin 16384, xl (ix2 0 col) = (((col.val / 128 : ℕ) : ℝ) : EReal))
    (hf : ∀ (col : Fin 16384) (o : Fin 128), fold (ix2 col o) = sel 128 col.val o.val)
    (o : Fin 128) (f : Fin 128 → Fin 128 → EReal)
    (htj : ∀ y x : Fin 128, tj (ix2 y ⟨x.val * 128 + o.val, by omega⟩) = f y x) (n : Fin 5120) :
    juncs ln yl tj xl fold (ix2 ⟨n.val / 128 * 256 + n.val % 128, by omega⟩ o) = hs f (ln (ix2 n 0)) (ln (ix2 n 1)) := by
  have h : ((ix2 (⟨n.val / 128 * 256 + n.val % 128, by omega⟩ : Fin 10240) o : S10240x128.Idx) 0).val % 256 < 128 := by
    show (n.val / 128 * 256 + n.val % 128) % 256 < 128; omega
  have e : ∀ p : Fin 4, (ix2 ⟨(n.val / 128 * 256 + n.val % 128) / 256 * 128 + (n.val / 128 * 256 + n.val % 128) % 256, by omega⟩ p : S5120x4.Idx)
      = ix2 n p := fun p => congrArg (ix2 · p) (Fin.ext (by
        show (n.val / 128 * 256 + n.val % 128) / 256 * 128 + (n.val / 128 * 256 + n.val % 128) % 256 = n.val; omega))
  refine Eq.trans (b := ∑ col : Fin 16384, (∑ y : Fin 128, hat (yl (ix2 0 y)) (ln (ix2 n 1)) * tj (ix2 y col))
    * hat (xl (ix2 0 col)) (ln (ix2 n 0)) * fold (ix2 col o)) ?_ ?_
  · unfold juncs
    refine Finset.sum_congr rfl fun col _ => ?_
    rw [dif_pos h]
    simp only [dif_pos h]
    rw [← e 0, ← e 1]
    rfl
  · simp only [hyl, hxl, hf]
    rw [fold_sum 128 rfl (fun col : Fin 16384 => (∑ y : Fin 128, hat (((y.val : ℕ) : ℝ) : EReal) (ln (ix2 n 1)) * tj (ix2 y col))
      * hat (((col.val / 128 : ℕ) : ℝ) : EReal) (ln (ix2 n 0))) o.val o.isLt]
    unfold hs
    refine Finset.sum_congr rfl fun x _ => ?_
    have hx : (x.val * 128 + o.val) / 128 = x.val := by omega
    simp only [htj, hx]

include hyl in
/-- A row of the second half of a junction block: the maps at the line's second end point. -/
theorem juncs_second (tj : S128x16384.Idx → EReal) (xl : S1x16384.Idx → EReal) (fold : S16384x128.Idx → EReal)
    (hxl : ∀ col : Fin 16384, xl (ix2 0 col) = (((col.val / 128 : ℕ) : ℝ) : EReal))
    (hf : ∀ (col : Fin 16384) (o : Fin 128), fold (ix2 col o) = sel 128 col.val o.val)
    (o : Fin 128) (f : Fin 128 → Fin 128 → EReal)
    (htj : ∀ y x : Fin 128, tj (ix2 y ⟨x.val * 128 + o.val, by omega⟩) = f y x) (n : Fin 5120) :
    juncs ln yl tj xl fold (ix2 ⟨n.val / 128 * 256 + 128 + n.val % 128, by omega⟩ o) = hs f (ln (ix2 n 2)) (ln (ix2 n 3)) := by
  have h : ¬ ((ix2 (⟨n.val / 128 * 256 + 128 + n.val % 128, by omega⟩ : Fin 10240) o : S10240x128.Idx) 0).val % 256 < 128 := by
    show ¬ (n.val / 128 * 256 + 128 + n.val % 128) % 256 < 128; omega
  have e : ∀ p : Fin 4, (ix2 ⟨(n.val / 128 * 256 + 128 + n.val % 128) / 256 * 128 + ((n.val / 128 * 256 + 128 + n.val % 128) % 256 - 128), by omega⟩ p : S5120x4.Idx)
      = ix2 n p := fun p => congrArg (ix2 · p) (Fin.ext (by
        show (n.val / 128 * 256 + 128 + n.val % 128) / 256 * 128 + ((n.val / 128 * 256 + 128 + n.val % 128) % 256 - 128) = n.val; omega))
  refine Eq.trans (b := ∑ col : Fin 16384, (∑ y : Fin 128, hat (yl (ix2 0 y)) (ln (ix2 n 3)) * tj (ix2 y col))
    * hat (xl (ix2 0 col)) (ln (ix2 n 2)) * fold (ix2 col o)) ?_ ?_
  · unfold juncs
    refine Finset.sum_congr rfl fun col _ => ?_
    rw [dif_neg h]
    simp only [dif_neg h]
    rw [← e 2, ← e 3]
    rfl
  · simp only [hyl, hxl, hf]
    rw [fold_sum 128 rfl (fun col : Fin 16384 => (∑ y : Fin 128, hat (((y.val : ℕ) : ℝ) : EReal) (ln (ix2 n 3)) * tj (ix2 y col))
      * hat (((col.val / 128 : ℕ) : ℝ) : EReal) (ln (ix2 n 2))) o.val o.isLt]
    unfold hs
    refine Finset.sum_congr rfl fun x _ => ?_
    have hx : (x.val * 128 + o.val) / 128 = x.val := by omega
    simp only [htj, hx]

/-- The edge array's entry, with the line and the point's number read off the row. -/
theorem edges_row (ln : S5120x4.Idx → EReal) (yl : S1x128.Idx → EReal) (te : S128x1024.Idx → EReal) (xl : S1x1024.Idx → EReal)
    (fold : S1024x128.Idx → EReal) (Q : Fin 163840) (o : Fin 128) :
    edges ln yl te xl fold (ix2 Q o) = ∑ col : Fin 1024, (∑ y : Fin 128, hat (yl (ix2 0 y))
        (mix ln ⟨Q.val / 32, by omega⟩ ⟨Q.val % 32, by omega⟩ 1 3) * te (ix2 y col))
      * hat (xl (ix2 0 col)) (mix ln ⟨Q.val / 32, by omega⟩ ⟨Q.val % 32, by omega⟩ 0 2) * fold (ix2 col o) := rfl

include hyl in
/-- A row of the edge array: the maps at the line's `k`-th point. -/
theorem edges_at (te : S128x1024.Idx → EReal) (xl : S1x1024.Idx → EReal) (fold : S1024x128.Idx → EReal)
    (hxl : ∀ col : Fin 1024, xl (ix2 0 col) = (((col.val / 8 : ℕ) : ℝ) : EReal))
    (hf : ∀ (col : Fin 1024) (o : Fin 128), fold (ix2 col o) = sel 8 col.val o.val)
    (o : Fin 128) (ho : o.val < 8) (f : Fin 128 → Fin 128 → EReal)
    (hte : ∀ y x : Fin 128, te (ix2 y ⟨x.val * 8 + o.val, by omega⟩) = f y x) (n : Fin 5120) (k : Fin 32) :
    edges ln yl te xl fold (ix2 ⟨n.val * 32 + k.val, by omega⟩ o) = hs f (mix ln n k 0 2) (mix ln n k 1 3) := by
  have e0 : (⟨(n.val * 32 + k.val) / 32, by omega⟩ : Fin 5120) = n := Fin.ext (by show (n.val * 32 + k.val) / 32 = n.val; omega)
  have e1 : (⟨(n.val * 32 + k.val) % 32, by omega⟩ : Fin 32) = k := Fin.ext (by show (n.val * 32 + k.val) % 32 = k.val; omega)
  refine Eq.trans (b := ∑ col : Fin 1024, (∑ y : Fin 128, hat (yl (ix2 0 y)) (mix ln n k 1 3) * te (ix2 y col))
    * hat (xl (ix2 0 col)) (mix ln n k 0 2) * fold (ix2 col o)) ?_ ?_
  · refine (edges_row ln yl te xl fold ⟨n.val * 32 + k.val, by omega⟩ o).trans ?_
    rw [e0, e1]
  · simp only [hyl, hxl, hf]
    rw [fold_sum 8 rfl (fun col : Fin 1024 => (∑ y : Fin 128, hat (((y.val : ℕ) : ℝ) : EReal) (mix ln n k 1 3) * te (ix2 y col))
      * hat (((col.val / 8 : ℕ) : ℝ) : EReal) (mix ln n k 0 2)) o.val ho]
    unfold hs
    refine Finset.sum_congr rfl fun x _ => ?_
    have hx : (x.val * 8 + o.val) / 8 = x.val := by omega
    simp only [hte, hx]

end Pure

variable (m : (ℓ : Loc nD τ sig) → Buf (Elt Ideal) ℓ) (ρ : Dev nD → PrngReg) (c : Dev nD)

/-- The junction maps as the second region finds them. -/
theorem W15_v8_map (o y x : Fin 128) :
    (W15 m ρ c main_v8 : S128x16384.Idx → EReal) (ix2 y ⟨x.val * 128 + o.val, by omega⟩)
      = cmapb (m ((c : Thread nD τ).loc main_arg0)) (m ((c : Thread nD τ).loc main_arg2)) (m ((c : Thread nD τ).loc main_arg3)) o y x := by
  rw [W15_v8]
  have h4 : (W4 m ρ c main_v7_0 : S16384x128.Idx → EReal) = mmb (W3 m ρ c main_v1) (W3 m ρ c main_v2) (W3 m ρ c main_v6) :=
    (W4_arr m ρ c 4).trans (final0_4 (V3 m ρ) c)
  rw [h4]
  have eo : (⟨(x.val * 128 + o.val) % 128, by omega⟩ : Fin 128) = o := Fin.ext (by show (x.val * 128 + o.val) % 128 = o.val; omega)
  have ex : (⟨y.val * 128 + (x.val * 128 + o.val) / 128, by omega⟩ : Fin 16384) = ⟨y.val * 128 + x.val, by omega⟩ :=
    Fin.ext (by show y.val * 128 + (x.val * 128 + o.val) / 128 = y.val * 128 + x.val; omega)
  rw [eo, ex]
  rw [mmb_at, W3_v6]
  unfold cmapb cmap
  refine congrArg (· + _) (Finset.sum_congr rfl fun k _ => ?_)
  rw [W3_v1, W3_v2]
  have ey : (⟨(y.val * 128 + x.val) / 128, by omega⟩ : Fin 128) = y := Fin.ext (by show (y.val * 128 + x.val) / 128 = y.val; omega)
  have exx : (⟨(y.val * 128 + x.val) % 128, by omega⟩ : Fin 128) = x := Fin.ext (by show (y.val * 128 + x.val) % 128 = x.val; omega)
  rw [ey, exx]

/-- The edge maps as the third region finds them, over the joined weights. -/
theorem W15_v10_map (o : Fin 128) (ho : o.val < 8) (y x : Fin 128) :
    (W15 m ρ c main_v10 : S128x1024.Idx → EReal) (ix2 y ⟨x.val * 8 + o.val, by omega⟩)
      = cmap8 (m ((c : Thread nD τ).loc main_arg0)) (m ((c : Thread nD τ).loc main_arg4)) (m ((c : Thread nD τ).loc main_arg6)) o y x := by
  rw [W15_v10]
  have h4 : (W4 m ρ c main_v7_1 : S16384x128.Idx → EReal) = mm (W3 m ρ c main_v1) (W3 m ρ c main_v5) :=
    (W4_arr m ρ c 5).trans (final0_5 (V3 m ρ) c)
  rw [h4]
  have eo : (⟨(x.val * 8 + o.val) % 8, by omega⟩ : Fin 128) = o := Fin.ext (by show (x.val * 8 + o.val) % 8 = o.val; omega)
  have ex : (⟨y.val * 128 + (x.val * 8 + o.val) / 8, by omega⟩ : Fin 16384) = ⟨y.val * 128 + x.val, by omega⟩ :=
    Fin.ext (by show y.val * 128 + (x.val * 8 + o.val) / 8 = y.val * 128 + x.val; omega)
  rw [eo, ex]
  rw [mm_at]
  unfold cmap8
  change @Eq EReal _ _
  refine Finset.sum_congr rfl fun k _ => ?_
  rw [W3_v1, W3_v5]
  have ey : (⟨(y.val * 128 + x.val) / 128, by omega⟩ : Fin 128) = y := Fin.ext (by show (y.val * 128 + x.val) / 128 = y.val; omega)
  have exx : (⟨(y.val * 128 + x.val) % 128, by omega⟩ : Fin 128) = x := Fin.ext (by show (y.val * 128 + x.val) % 128 = x.val; omega)
  rw [ey, exx]

/-- What the second region leaves, at the boundary the rows are put together. -/
theorem W17_v39 : (W17 m ρ c main_v39 : S10240x128.Idx → EReal)
    = juncs (W15 m ρ c main_v11) (W15 m ρ c main_v30) (W15 m ρ c main_v8) (W15 m ρ c main_v34) (W15 m ρ c main_v20) :=
  (W17_of m ρ c main_v39 (by decide)).trans ((W16_arr m ρ c 5).trans (final1_5 (V15 m ρ) c))

/-- What the third region leaves. -/
theorem W17_v40 : (W17 m ρ c main_v40 : S163840x128.Idx → EReal)
    = edges (W15 m ρ c main_v11) (W15 m ρ c main_v30) (W15 m ρ c main_v10) (W15 m ρ c main_v38) (W15 m ρ c main_v28) := by
  have h := (W17_arr m ρ c 5).trans (final2_5 (V16 m ρ) c)
  refine h.trans ?_
  show edges (W16 m ρ c main_v11) (W16 m ρ c main_v30) (W16 m ρ c main_v10) (W16 m ρ c main_v38) (W16 m ρ c main_v28) = _
  rw [W16_of m ρ c main_v11 (by decide), W16_of m ρ c main_v30 (by decide), W16_of m ρ c main_v10 (by decide),
    W16_of m ρ c main_v38 (by decide), W16_of m ρ c main_v28 (by decide)]

/-- The lines' rows are the row of features. -/
theorem xrow_eq (n : Fin 5000) (i : Fin 496) :
    xrow (W17 m ρ c main_v39) (W17 m ρ c main_v40) ⟨n.val, by omega⟩ ⟨i.val, by omega⟩
      = row (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6)) n i := by
  have hl : ∀ p : Fin 4, (W15 m ρ c main_v11 : S5120x4.Idx → EReal) (ix2 ⟨n.val, by omega⟩ p)
      = (m ((c : Thread nD τ).loc main_arg1) : S5000x4.Idx → EReal) (ix2 n p) := fun p => by
    rw [W15_v11]; unfold padLines; rw [dif_pos n.isLt]
  have hm : ∀ (k : Fin 32) (p q : Fin 4), mix (W15 m ρ c main_v11 : S5120x4.Idx → EReal) ⟨n.val, by omega⟩ k p q
      = pt (m ((c : Thread nD τ).loc main_arg1)) n k p q := fun k p q => by
    unfold mix pt; rw [hl, hl]
  rw [W17_v39, W17_v40]
  unfold xrow row
  dsimp only
  rw [dif_pos n.isLt]
  by_cases h0 : i.val < 128
  · rw [dif_pos h0, dif_pos h0]
    rw [juncs_first _ _ (W15_v30 m ρ c) _ _ _ (W15_v34 m ρ c) (W15_v20 m ρ c) ⟨i.val, h0⟩ _
      (fun y x => W15_v8_map m ρ c ⟨i.val, h0⟩ y x) ⟨n.val, by omega⟩, hl, hl]
  rw [dif_neg h0, dif_neg h0]
  by_cases h1 : i.val < 256
  · rw [dif_pos h1, dif_pos h1]
    rw [juncs_second _ _ (W15_v30 m ρ c) _ _ _ (W15_v34 m ρ c) (W15_v20 m ρ c) ⟨i.val - 128, by omega⟩ _
      (fun y x => W15_v8_map m ρ c ⟨i.val - 128, by omega⟩ y x) ⟨n.val, by omega⟩, hl, hl]
  rw [dif_neg h1, dif_neg h1]
  by_cases h2 : i.val < 376
  · rw [dif_pos h2, dif_pos h2]
    rw [edges_at _ _ (W15_v30 m ρ c) _ _ _ (W15_v38 m ρ c) (W15_v28 m ρ c) ⟨(i.val - 256) % 4, by omega⟩
      (by show (i.val - 256) % 4 < 8; omega) _
      (fun y x => W15_v10_map m ρ c ⟨(i.val - 256) % 4, by omega⟩ (by show (i.val - 256) % 4 < 8; omega) y x)
      ⟨n.val, by omega⟩ ⟨1 + (i.val - 256) / 4, by omega⟩, hm, hm]
    refine congrArg (fun f => hs f _ _) (funext fun y => funext fun x => Finset.sum_congr rfl fun k _ => ?_)
    unfold wedge
    rw [dif_pos (show (⟨(i.val - 256) % 4, by omega⟩ : Fin 128).val < 4 by show (i.val - 256) % 4 < 4; omega)]
  · rw [dif_neg h2, dif_neg h2, dif_pos i.isLt]
    rw [edges_at _ _ (W15_v30 m ρ c) _ _ _ (W15_v38 m ρ c) (W15_v28 m ρ c) ⟨4 + (i.val - 376) % 4, by omega⟩
      (by show 4 + (i.val - 376) % 4 < 8; omega) _
      (fun y x => W15_v10_map m ρ c ⟨4 + (i.val - 376) % 4, by omega⟩ (by show 4 + (i.val - 376) % 4 < 8; omega) y x)
      ⟨n.val, by omega⟩ ⟨1 + (i.val - 376) / 4, by omega⟩, hm, hm]
    refine congrArg (fun f => hs f _ _) (funext fun y => funext fun x => Finset.sum_congr rfl fun k _ => ?_)
    unfold wedge
    rw [dif_neg (show ¬ (⟨4 + (i.val - 376) % 4, by omega⟩ : Fin 128).val < 4 by show ¬ 4 + (i.val - 376) % 4 < 4; omega),
      dif_pos (show (⟨4 + (i.val - 376) % 4, by omega⟩ : Fin 128).val < 8 by show 4 + (i.val - 376) % 4 < 8; omega)]
    have e : ∀ h, (⟨4 + (i.val - 376) % 4 - 4, h⟩ : Fin 4) = ⟨(i.val - 376) % 4, by omega⟩ := fun h => Fin.ext (by
      show 4 + (i.val - 376) % 4 - 4 = (i.val - 376) % 4; omega)
    dsimp only
    rw [e]

/-- The kernel's result at a line: the layers over the line's row of features. -/
theorem kernel_value (n : Fin 5000) :
    (W26 m ρ c main_v71 : S5000.Idx → EReal) (ix1 n)
      = net (row (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6)) n)
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) (m ((c : Thread nD τ).loc main_arg15)) := by
  rw [W26_v71]
  have h : (W25 m ρ c main_v69 : S5120x128.Idx → EReal)
      = mlp (W24 m ρ c main_v57) (W24 m ρ c main_v59) (W24 m ρ c main_v64) (W24 m ρ c main_v65) (W24 m ρ c main_v66)
          (W24 m ρ c main_v67) (W24 m ρ c main_v68) (W24 m ρ c main_v61) (W24 m ρ c main_v63) :=
    (W25_arr m ρ c 9).trans (final3_9 (V24 m ρ) c)
  rw [h]
  exact mlp_net _ _ _ _ _ _ _ _ _ _ _ _ _ _ _ _ _ _ _ (fun i => (W24_v57 m ρ c _ _).trans (xrow_eq m ρ c n i)) (W24_v59 m ρ c)
    (W24_v64 m ρ c) (W24_v65 m ρ c) (W24_v66 m ρ c) (W24_v67 m ρ c) (W24_v68 m ρ c) (W24_v61 m ρ c) (W24_v63 m ρ c 0)

end Cert.Lines

end
-- ==== Proof.Equal.lean ====
/- The two programs' results are one array. -/
module

public import proofs.«01_k».proof.Proof.KernelRun
public import proofs.«01_k».proof.Proof.KernelValue
public import proofs.«01_k».proof.Proof.RefValue
public import proofs.«01_k».proof.Proof.Gen.ReferenceIdeal.Run

@[expose] public section

set_option maxRecDepth 16384

noncomputable section

namespace Cert.Lines

open Idealize.ShloMosaic Idealize.ShloMosaic.TcCoe Idealize.ShloMosaic.StableHlo

/-- The reference's result term over a memory's arrays. -/
abbrev refOut (m' : (ℓ : Loc Cert.ReferenceIdeal.nD Cert.ReferenceIdeal.τ Cert.ReferenceIdeal.sig) → Buf (Elt Ideal) ℓ)
    (c : Dev Cert.ReferenceIdeal.nD) : Cert.ReferenceIdeal.S5000.Idx → EReal :=
  Cert.ReferenceIdeal.Read.val_main_v498 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))

/-- Reading the term at the launch's contents reads the memory's arrays. -/
theorem refOut_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Read.val_main_v498 (F := Ideal)
      (launchContents m' c (Proc.devRef .tc Cert.ReferenceIdeal.main_arg0))
      (launchContents m' c (Proc.devRef .tc Cert.ReferenceIdeal.main_arg1))
      (launchContents m' c (Proc.devRef .tc Cert.ReferenceIdeal.main_arg2))
      (launchContents m' c (Proc.devRef .tc Cert.ReferenceIdeal.main_arg3))
      (launchContents m' c (Proc.devRef .tc Cert.ReferenceIdeal.main_arg4))
      (launchContents m' c (Proc.devRef .tc Cert.ReferenceIdeal.main_arg5))
      (launchContents m' c (Proc.devRef .tc Cert.ReferenceIdeal.main_arg6))
      (launchContents m' c (Proc.devRef .tc Cert.ReferenceIdeal.main_arg7))
      (launchContents m' c (Proc.devRef .tc Cert.ReferenceIdeal.main_arg8))
      (launchContents m' c (Proc.devRef .tc Cert.ReferenceIdeal.main_arg9))
      (launchContents m' c (Proc.devRef .tc Cert.ReferenceIdeal.main_arg10))
      (launchContents m' c (Proc.devRef .tc Cert.ReferenceIdeal.main_arg11))
      (launchContents m' c (Proc.devRef .tc Cert.ReferenceIdeal.main_arg12))
      (launchContents m' c (Proc.devRef .tc Cert.ReferenceIdeal.main_arg13))
      (launchContents m' c (Proc.devRef .tc Cert.ReferenceIdeal.main_arg14))
      (launchContents m' c (Proc.devRef .tc Cert.ReferenceIdeal.main_arg15))
      = refOut m' c := by
  with_reducible_and_instances rfl

/-- Every run of the reference ends with that term in its result and its arguments as launched. -/
theorem ref_run (m' : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m', fun _ => 0, ρ⟩
      fun r => ∀ c : Dev Cert.ReferenceIdeal.nD,
        r.2.mem ((c.tc : Thread Cert.ReferenceIdeal.nD Cert.ReferenceIdeal.τ).loc Cert.ReferenceIdeal.main_v498) = refOut m' c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15) := by
  refine (θ_run Cert.ReferenceIdeal.defs _ _).mono (fun r h c => ⟨(h c).1.trans ?_, (h c).2⟩)
    (Cert.ReferenceIdeal.Value.run (F := Ideal) m' ρ)
  exact (Cert.ReferenceIdeal.Read.val_main_v498_eq (F := Ideal) (launchContents m' c)).trans (refOut_eq m' c)

/-- The kernel's result over lines inside the grid and zero edge biases is the reference's over the same arguments. -/
theorem results_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (m' : (ℓ : Loc Cert.ReferenceIdeal.nD Cert.ReferenceIdeal.τ Cert.ReferenceIdeal.sig) → Buf (Elt Ideal) ℓ)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hl : Inside (m ((c.tc : Thread Cert.KernelIdeal.nD Cert.KernelIdeal.τ).loc Cert.KernelIdeal.main_arg1)))
    (h5 : ∀ o : Fin 4, @Eq EReal (m ((c.tc : Thread Cert.KernelIdeal.nD Cert.KernelIdeal.τ).loc Cert.KernelIdeal.main_arg5) (ix1 o)) 0)
    (h7 : ∀ o : Fin 4, @Eq EReal (m ((c.tc : Thread Cert.KernelIdeal.nD Cert.KernelIdeal.τ).loc Cert.KernelIdeal.main_arg7) (ix1 o)) 0) :
    refOut m' c = (Cert.KernelIdeal.Gen.W26 m ρ c Cert.KernelIdeal.main_v71 : Cert.ReferenceIdeal.S5000.Idx → EReal) := by
  obtain ⟨e0, e1, e2, e3, e4, e5, e6, e7, e8, e9, e10, e11, e12, e13, e14, e15⟩ := e
  unfold refOut
  rw [e0, e1, e2, e3, e4, e5, e6, e7, e8, e9, e10, e11, e12, e13, e14, e15]
  funext i
  obtain ⟨n, rfl⟩ : ∃ n : Fin 5000, i = ix1 n := ⟨i 0, eq_ix1 i⟩
  exact (ref_value _ _ hl _ _ _ _ _ _ _ _ _ _ _ _ _ _ h5 h7 n).trans (kernel_value m ρ c n).symm

end Cert.Lines
-- ==== Proof.lean ====
/- The certificate: the kernel, the idealized kernel and the reference end with their arguments unchanged, the idealized
   kernel differs by its named constant alone, and over lines inside the grid it computes the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Inside
public import proofs.«01_k».proof.Proof.Equal
public import Idealize.ShloMosaic.PureOps.IdealRules
public import Idealize.ShloMosaic.Adequacy
public import Idealize.ShloMosaic.Init

@[expose] public section

noncomputable section

namespace Cert.Proof

open Idealize.ShloMosaic Idealize.ShloMosaic.TcCoe Idealize.SL.Sem Cert.Kernel

/-- Over lines inside the grid and zero edge biases the idealized kernel and the reference, run on the same arguments, end
    with the same result. -/
theorem same : Cert.algebraic_KernelIdeal_ReferenceIdeal_pre_lines_inside (hKernelIdeal := Cert.KernelIdeal.Gen.facts)
    (hReferenceIdeal := Cert.ReferenceIdeal.Gen.facts) (hPre_lines_inside := Cert.Lines.pre_facts) := by
  intro m g m' g' hp e
  refine ⟨fun c => Cert.KernelIdeal.Gen.W26 m g c Cert.KernelIdeal.main_v71, Cert.Lines.kernel_run m g, ?_⟩
  refine (θ_run Cert.ReferenceIdeal.defs _ _).mono (fun r h c => ⟨(h c).1.trans ?_, (h c).2⟩) (Cert.Lines.ref_run m' g')
  exact Cert.Lines.results_eq m g c m' (e c) (Cert.Lines.inside_of _ _ _ _ _ _ _ _ _ _ _ _ _ _ _ _ (hp c).1)
    (Cert.Lines.bias3_of _ _ _ _ _ _ _ _ _ _ _ _ _ _ _ _ (hp c).2.1)
    (Cert.Lines.bias4_of _ _ _ _ _ _ _ _ _ _ _ _ _ _ _ _ (hp c).2.2)

/-- The reference ends with its arguments unchanged and every counter at zero. -/
theorem ref_ends : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel, the idealized kernel and the reference end with their arguments unchanged and every counter at zero, the one
    named constant is what its name says, and the idealized kernel computes the reference's result. -/
theorem claim : Cert.Claim := ⟨Cert.Kernel.Gen.facts, Cert.KernelIdeal.Gen.facts, Cert.ReferenceIdeal.Gen.facts,
  Cert.Lines.pre_facts,
  fun m ρ _ => Cert.Kernel.Gen.frame m ρ,
  fun m ρ _ => Cert.KernelIdeal.Gen.frame m ρ,
  fun m ρ _ => Cert.KernelIdeal.Gen.frame m ρ,
  ref_ends,
  fun m ρ _ => ref_ends m ρ trivial,
  IdealRules.named_const.statement Cert.KernelIdeal.κ "inv31" .f32 0x3D042108#32 ((1 / 31 : ℝ) : EReal) rfl,
  same⟩

end Cert.Proof

end
